-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arguments_ok [hPre_arguments_ok : Cert.Pre_arguments_ok.Facts] (m : (ℓ : Loc Cert.KernelIdeal.nD Cert.KernelIdeal.τ Cert.KernelIdeal.sig) → Buf (Elt Ideal) ℓ) : Prop :=
  ∀ c : Dev Cert.KernelIdeal.nD,
    (Cert.Pre_arguments_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_arguments_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arguments_ok [hPre_arguments_ok : Cert.Pre_arguments_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arguments_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_arguments_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_arguments_ok [hKernelIdeal : Cert.KernelIdeal.Facts] [hPre_arguments_ok : Cert.Pre_arguments_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arguments_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_arguments_ok [hReferenceIdeal : Cert.ReferenceIdeal.Facts] [hPre_arguments_ok : Cert.Pre_arguments_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arguments_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S64x256 Cert.KernelIdeal.S32x256
  ∧ IdealRules.bf16_pair.Statement Cert.KernelIdeal.S64x128 Cert.KernelIdeal.S32x128
  ∧ IdealRules.bf16_pair.PackStatement Cert.KernelIdeal.S32x128

def algebraic_KernelIdeal_ReferenceIdeal_pre_arguments_ok [hKernelIdeal : Cert.KernelIdeal.Facts] [hReferenceIdeal : Cert.ReferenceIdeal.Facts] [hPre_arguments_ok : Cert.Pre_arguments_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arguments_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_arguments_ok : Cert.Pre_arguments_ok.Facts),
    quiescent_Kernel (hKernel := hKernel)
    ∧ quiescent_KernelIdeal (hKernelIdeal := hKernelIdeal)
    ∧ quiescent_KernelIdeal_pre_arguments_ok (hKernelIdeal := hKernelIdeal) (hPre_arguments_ok := hPre_arguments_ok)
    ∧ quiescent_ReferenceIdeal (hReferenceIdeal := hReferenceIdeal)
    ∧ quiescent_ReferenceIdeal_pre_arguments_ok (hReferenceIdeal := hReferenceIdeal) (hPre_arguments_ok := hPre_arguments_ok)
    ∧ preserves_Kernel_KernelIdeal
    ∧ algebraic_KernelIdeal_ReferenceIdeal_pre_arguments_ok (hKernelIdeal := hKernelIdeal) (hReferenceIdeal := hReferenceIdeal) (hPre_arguments_ok := hPre_arguments_ok)
-- ==== Pre_arguments_ok.lean ====
abbrev S5x16384x320 : Shape := ⟨3, ![5, 16384, 320]⟩
abbrev S256 : Shape := ⟨1, ![256]⟩
abbrev S5 : Shape := ⟨1, ![5]⟩
abbrev S_ : Shape := ⟨0, ![]⟩

class Facts : Prop where
  bcast_S_S256 : S_.BroadcastsInDim S256 (![] : Fin 0 → Fin S256.rank)
  bcast_S_S5 : S_.BroadcastsInDim S5 (![] : Fin 0 → Fin S5.rank)

variable [Facts]

def fn {F : FTy → Type} [FloatOps F] (main_arg0 : FVec F S5x16384x320 .bf16) (main_arg1 : FVec F S256 .f32) (main_arg2 : IVec S5 32) : IVec S256 1 × IVec S5 1 :=
  let main_v0 : FVec F S256 .f32 := Host.absf main_arg1
  let main_cst : FVec F S_ .f32 := constant S_ .f32 0x7F7FFFFF#32
  let main_v1 : FVec F S256 .f32 := broadcastInDim S256 ![] bcast_S_S256 main_cst
  let main_v2 : IVec S256 1 := cmpf .ole main_v0 main_v1
  let main_c : IVec S_ 32 := constantI S_ 32 2147467264#32
  let main_v3 : IVec S5 32 := broadcastInDim S5 ![] bcast_S_S5 main_c
  let main_v4 : IVec S5 1 := cmpi .sle main_arg2 main_v3
  (main_v2, main_v4)
-- ==== Kernel.lean ====
abbrev S5x16384x320 : Shape := ⟨3, ![5, 16384, 320]⟩
abbrev S256 : Shape := ⟨1, ![256]⟩
abbrev S5 : Shape := ⟨1, ![5]⟩
abbrev S32 : Shape := ⟨1, ![32]⟩
abbrev S_ : Shape := ⟨0, ![]⟩
abbrev S128 : Shape := ⟨1, ![128]⟩
abbrev S1x128 : Shape := ⟨2, ![1, 128]⟩
abbrev S5x320x16384 : Shape := ⟨3, ![5, 320, 16384]⟩
abbrev S1x256 : Shape := ⟨2, ![1, 256]⟩
abbrev S5x64x16384 : Shape := ⟨3, ![5, 64, 16384]⟩
abbrev S5x16384x256 : Shape := ⟨3, ![5, 16384, 256]⟩
abbrev S5x2x16384 : Shape := ⟨3, ![5, 2, 16384]⟩
abbrev S1x320x2048 : Shape := ⟨3, ![1, 320, 2048]⟩
abbrev S1x64x2048 : Shape := ⟨3, ![1, 64, 2048]⟩
abbrev S1x2048x256 : Shape := ⟨3, ![1, 2048, 256]⟩
abbrev S1x2x2048 : Shape := ⟨3, ![1, 2, 2048]⟩
abbrev S256x128 : Shape := ⟨2, ![256, 128]⟩
abbrev S256x256 : Shape := ⟨2, ![256, 256]⟩
abbrev S96x128 : Shape := ⟨2, ![96, 128]⟩
abbrev S32x128 : Shape := ⟨2, ![32, 128]⟩
abbrev S128x128 : Shape := ⟨2, ![128, 128]⟩
abbrev S1 : Shape := ⟨1, ![1]⟩
abbrev S1x256x256 : Shape := ⟨3, ![1, 256, 256]⟩
abbrev S128x256 : Shape := ⟨2, ![128, 256]⟩
abbrev S1x1x256 : Shape := ⟨3, ![1, 1, 256]⟩
abbrev S1x64x256 : Shape := ⟨3, ![1, 64, 256]⟩
abbrev S64x256 : Shape := ⟨2, ![64, 256]⟩
abbrev S32x256 : Shape := ⟨2, ![32, 256]⟩
abbrev S32x128x1 : Shape := ⟨3, ![32, 128, 1]⟩

abbrev nBuf : Space → Nat
  | .hbm => 27
  | .vmem => 17
  | .smem => 1
  | _ => 0

abbrev bufTy : (tb : Table) → Fin (tcTables nBuf tb) → BufTy
  | .hbm, ⟨0, _⟩ => ⟨S5x16384x320, .bf16⟩
  | .hbm, ⟨1, _⟩ => ⟨S256, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S5x320x16384, .bf16⟩
  | .hbm, ⟨23, _⟩ => ⟨S1x256, .f32⟩
  | .hbm, ⟨24, _⟩ => ⟨S5x64x16384, .bf16⟩
  | .hbm, ⟨25, _⟩ => ⟨S5x16384x256, .fp8e4m3⟩
  | .hbm, ⟨26, _⟩ => ⟨S5x2x16384, .f32⟩
  | .local _ .vmem, ⟨0, _⟩ => ⟨S1x320x2048, .bf16⟩
  | .local _ .vmem, ⟨1, _⟩ => ⟨S1x320x2048, .bf16⟩
  | .local _ .vmem, ⟨2, _⟩ => ⟨S1x256, .f32⟩
  | .local _ .vmem, ⟨3, _⟩ => ⟨S1x128, .f32⟩
  | .local _ .vmem, ⟨4, _⟩ => ⟨S1x64x2048, .bf16⟩
  | .local _ .vmem, ⟨5, _⟩ => ⟨S1x64x2048, .bf16⟩
  | .local _ .vmem, ⟨6, _⟩ => ⟨S1x2048x256, .fp8e4m3⟩
  | .local _ .vmem, ⟨7, _⟩ => ⟨S1x2048x256, .fp8e4m3⟩
  | .local _ .vmem, ⟨8, _⟩ => ⟨S1x2x2048, .f32⟩
  | .local _ .vmem, ⟨9, _⟩ => ⟨S1x2x2048, .f32⟩
  | .local _ .vmem, ⟨10, _⟩ => ⟨S256x128, .f32⟩
  | .local _ .vmem, ⟨11, _⟩ => ⟨S256x256, .bf16⟩
  | .local _ .vmem, ⟨12, _⟩ => ⟨S96x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .smem, ⟨0, _⟩ => ⟨S5, .i32⟩
  | _, _ => ⟨S5x16384x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![5, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_5 : BitVec 32 := 0#32
  let v9 : BitVec 1 := Scalar.cmpi .eq arg1 c0_i32_5
  let v10 : BitVec 32 := Scalar.extui v9
  let c0_i32_6 : BitVec 32 := 0#32
  let v11 : BitVec 1 := Scalar.cmpi .ne v10 c0_i32_6
  v11

def k0_off1 (i : grid0.Coords) : Fin 1 → Nat :=
  let arg0 : BitVec 32 := BitVec.ofNat 32 (i 0).val
  let v13 : Index := Scalar.indexCast arg0
  ![v13.toNat]
@[reducible] def k0_t1_loop : Scf.Loop 32 :=
  let c0_i32_7 : BitVec 32 := 0#32
  let c8_i32 : BitVec 32 := 8#32
  let v12 : BitVec 32 := Scalar.addi c0_i32_7 c8_i32
  let c1_i32 : BitVec 32 := 1#32
  ⟨c0_i32_7, v12, c1_i32⟩
def k0_mult1 (k0_t1 : Fin k0_t1_loop.trips) : BitVec 32 :=
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  v13
def k0_off2 (k0_t1 : Fin k0_t1_loop.trips) : Fin 3 → Nat :=
  let c0_9 : Index := 0#32
  let c0_10 : Index := 0#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v15 : Index := Scalar.indexCast v14
  ![0, 0, v15.toNat]
def k0_off3 (k0_t1 : Fin k0_t1_loop.trips) : Fin 3 → Nat :=
  let c0_20 : Index := 0#32
  let c0_21 : Index := 0#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v89 : Index := Scalar.indexCast v14
  ![0, 0, v89.toNat]
def k0_off4 (k0_t1 : Fin k0_t1_loop.trips) : Fin 3 → Nat :=
  let c0_40 : Index := 0#32
  let c1 : Index := 1#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v162 : Index := Scalar.indexCast v14
  ![0, 1, v162.toNat]
def k0_off5 (k0_t1 : Fin k0_t1_loop.trips) : Fin 3 → Nat :=
  let c0_43 : Index := 0#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v175 : Index := Scalar.indexCast v14
  let c0_44 : Index := 0#32
  ![0, v175.toNat, 0]
def k0_off6 (k0_t1 : Fin k0_t1_loop.trips) : Fin 3 → Nat :=
  let c0_45 : Index := 0#32
  let c256 : Index := 256#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v179 : Index := Scalar.indexCast v14
  ![0, 256, v179.toNat]
def k0_off7 (i : grid0.Coords) : Fin 1 → Nat :=
  let arg0 : BitVec 32 := BitVec.ofNat 32 (i 0).val
  let v215 : Index := Scalar.indexCast arg0
  ![v215.toNat]
def k0_off8 (k0_t1 : Fin k0_t1_loop.trips) : Fin 3 → Nat :=
  let c0_78 : Index := 0#32
  let c0_79 : Index := 0#32
  let c0_i32_7 : BitVec 32 := 0#32
  let c1_i32 : BitVec 32 := 1#32
  let arg16 : BitVec 32 := Scf.iv c0_i32_7 c1_i32 k0_t1
  let c256_i32 : BitVec 32 := 256#32
  let v13 : BitVec 32 := Scalar.muli arg16 c256_i32
  let v14 : BitVec 32 := v13
  let v307 : Index := Scalar.indexCast v14
  ![0, 0, v307.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S64x128 : Shape := ⟨2, ![64, 128]⟩
variable {F : FTy → Type} [FloatOps F]
-- ==== ReferenceIdeal.lean ====
abbrev S5x16384x320 : Shape := ⟨3, ![5, 16384, 320]⟩
abbrev S256 : Shape := ⟨1, ![256]⟩
abbrev S5 : Shape := ⟨1, ![5]⟩
abbrev S5x16384x256 : Shape := ⟨3, ![5, 16384, 256]⟩
abbrev S_ : Shape := ⟨0, ![]⟩
abbrev S5x16384 : Shape := ⟨2, ![5, 16384]⟩
abbrev S5x16384x1 : Shape := ⟨3, ![5, 16384, 1]⟩
abbrev S1x1x256 : Shape := ⟨3, ![1, 1, 256]⟩
abbrev S5x16384x2x128 : Shape := ⟨4, ![5, 16384, 2, 128]⟩
abbrev S5x16384x2 : Shape := ⟨3, ![5, 16384, 2]⟩
abbrev S5x16384x2x1 : Shape := ⟨4, ![5, 16384, 2, 1]⟩
abbrev S5x16384x64 : Shape := ⟨3, ![5, 16384, 64]⟩
abbrev S5x16384x32x2 : Shape := ⟨4, ![5, 16384, 32, 2]⟩
abbrev S32 : Shape := ⟨1, ![32]⟩
abbrev S5x1 : Shape := ⟨2, ![5, 1]⟩
abbrev S16384 : Shape := ⟨1, ![16384]⟩
abbrev S1x16384 : Shape := ⟨2, ![1, 16384]⟩
abbrev S1x1x32 : Shape := ⟨3, ![1, 1, 32]⟩
abbrev S5x16384x32 : Shape := ⟨3, ![5, 16384, 32]⟩
abbrev S5x16384x32x1 : Shape := ⟨4, ![5, 16384, 32, 1]⟩
abbrev S5x64x16384 : Shape := ⟨3, ![5, 64, 16384]⟩
abbrev S5x2x16384 : Shape := ⟨3, ![5, 2, 16384]⟩

abbrev nBuf : Space → Nat
  | .hbm => 117
  | .vmem => 2
  | .smem => 0
  | _ => 0

abbrev bufTy : (tb : Table) → Fin (tcTables nBuf tb) → BufTy
  | .hbm, ⟨0, _⟩ => ⟨S5x16384x320, .bf16⟩
  | .hbm, ⟨1, _⟩ => ⟨S256, .f32⟩
  | .hbm, ⟨2, _⟩ => ⟨S5, .i32⟩
  | .hbm, ⟨3, _⟩ => ⟨S5x16384x256, .bf16⟩
  | .hbm, ⟨4, _⟩ => ⟨S5x16384x256, .f32⟩
  | .hbm, ⟨5, _⟩ => ⟨S5x16384x256, .f32⟩
  | .hbm, ⟨6, _⟩ => ⟨S_, .f32⟩
  | .hbm, ⟨7, _⟩ => ⟨S5x16384, .f32⟩
  | .hbm, ⟨8, _⟩ => ⟨S5x16384x1, .f32⟩
  | .hbm, ⟨9, _⟩ => ⟨S_, .f32⟩
  | .hbm, ⟨10, _⟩ => ⟨S5x16384x1, .f32⟩
  | .hbm, ⟨11, _⟩ => ⟨S5x16384x1, .f32⟩
  | .hbm, ⟨12, _⟩ => ⟨S_, .f32⟩
  | .hbm, ⟨13, _⟩ => ⟨S5x16384x1, .f32⟩
  | .hbm, ⟨14, _⟩ => ⟨S5x16384x1, .f32⟩
  | .hbm, ⟨15, _⟩ => ⟨S5x16384x1, .f32⟩
  | .hbm, ⟨16, _⟩ => ⟨S5x16384x256, .f32⟩
  | .hbm, ⟨17, _⟩ => ⟨S5x16384x256, .f32⟩
  | .hbm, ⟨18, _⟩ => ⟨S1x1x256, .f32⟩
  | .hbm, ⟨19, _⟩ => ⟨S5x16384x256, .f32⟩
  | .hbm, ⟨20, _⟩ => ⟨S5x16384x256, .f32⟩
  | .hbm, ⟨21, _⟩ => ⟨S5x16384x2x128, .f32⟩
  | .hbm, ⟨22, _⟩ => ⟨S5x16384x2x128, .f32⟩
  | .hbm, ⟨23, _⟩ => ⟨S_, .f32⟩
  | .hbm, ⟨24, _⟩ => ⟨S5x16384x2, .f32⟩
  | .hbm, ⟨25, _⟩ => ⟨S_, .f32⟩
  | .hbm, ⟨26, _⟩ => ⟨S5x16384x2, .f32⟩
  | .hbm, ⟨27, _⟩ => ⟨S5x16384x2, .f32⟩
  | .hbm, ⟨28, _⟩ => ⟨S5x16384x2, .f32⟩
  | .hbm, ⟨29, _⟩ => ⟨S_, .f32⟩
  | .hbm, ⟨30, _⟩ => ⟨S5x16384x2, .f32⟩
  | .hbm, ⟨31, _⟩ => ⟨S5x16384x2, .f32⟩
  | .hbm, ⟨32, _⟩ => ⟨S5x16384x2, .f32⟩
  | .hbm, ⟨33, _⟩ => ⟨S_, .f32⟩
  | .hbm, ⟨34, _⟩ => ⟨S5x16384x2, .f32⟩
  | .hbm, ⟨35, _⟩ => ⟨S5x16384x2, .i1⟩
  | .hbm, ⟨36, _⟩ => ⟨S5x16384x2, .f32⟩
  | .hbm, ⟨37, _⟩ => ⟨S_, .f32⟩
  | .hbm, ⟨38, _⟩ => ⟨S5x16384x2, .f32⟩
  | .hbm, ⟨39, _⟩ => ⟨S5x16384x2, .f32⟩
  | .hbm, ⟨40, _⟩ => ⟨S_, .f32⟩
  | .hbm, ⟨41, _⟩ => ⟨S5x16384x2, .f32⟩
  | .hbm, ⟨42, _⟩ => ⟨S5x16384x2, .f32⟩
  | .hbm, ⟨43, _⟩ => ⟨S_, .f32⟩
  | .hbm, ⟨44, _⟩ => ⟨S_, .f32⟩
  | .hbm, ⟨45, _⟩ => ⟨S5x16384x2, .f32⟩
  | .hbm, ⟨46, _⟩ => ⟨S5x16384x2, .f32⟩
  | .hbm, ⟨47, _⟩ => ⟨S_, .f32⟩
  | .hbm, ⟨48, _⟩ => ⟨S5x16384x2, .f32⟩
  | .hbm, ⟨49, _⟩ => ⟨S5x16384x2, .f32⟩
  | .hbm, ⟨50, _⟩ => ⟨S5x16384x2, .f32⟩
  | .hbm, ⟨51, _⟩ => ⟨S_, .f32⟩
  | .hbm, ⟨52, _⟩ => ⟨S5x16384x2, .f32⟩
  | .hbm, ⟨53, _⟩ => ⟨S5x16384x2, .f32⟩
  | .hbm, ⟨54, _⟩ => ⟨S5x16384x2x1, .f32⟩
  | .hbm, ⟨55, _⟩ => ⟨S5x16384x2x128, .f32⟩
  | .hbm, ⟨56, _⟩ => ⟨S5x16384x2x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S5x16384x2x128, .f32⟩
  | .hbm, ⟨61, _⟩ => ⟨S5x16384x2x128, .f32⟩
  | .hbm, ⟨62, _⟩ => ⟨S_, .f32⟩
  | .hbm, ⟨63, _⟩ => ⟨S5x16384x2x128, .f32⟩
  | .hbm, ⟨64, _⟩ => ⟨S5x16384x2x128, .f32⟩
  | .hbm, ⟨65, _⟩ => ⟨S5x16384x256, .f32⟩
  | .hbm, ⟨66, _⟩ => ⟨S5x16384x64, .bf16⟩
  | .hbm, ⟨67, _⟩ => ⟨S5x16384x64, .f32⟩
  | .hbm, ⟨68, _⟩ => ⟨S5x16384x32x2, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S5x1, .i32⟩
  | .hbm, ⟨86, _⟩ => ⟨S16384, .i32⟩
  | .hbm, ⟨87, _⟩ => ⟨S1x16384, .i32⟩
  | .hbm, ⟨88, _⟩ => ⟨S5x16384, .i32⟩
  | .hbm, ⟨89, _⟩ => ⟨S5x16384, .i32⟩
  | .hbm, ⟨90, _⟩ => ⟨S5x16384, .i32⟩
  | .hbm, ⟨91, _⟩ => ⟨S5x16384, .f32⟩
  | .hbm, ⟨92, _⟩ => ⟨S5x16384x1, .f32⟩
  | .hbm, ⟨93, _⟩ => ⟨S1x1x32, .f32⟩
  | .hbm, ⟨94, _⟩ => ⟨S5x16384x32, .f32⟩
  | .hbm, ⟨95, _⟩ => ⟨S5x16384x32, .f32⟩
  | .hbm, ⟨96, _⟩ => ⟨S5x16384x32, .f32⟩
  | .hbm, ⟨97, _⟩ => ⟨S5x16384x32, .f32⟩
  | .hbm, ⟨98, _⟩ => ⟨S5x16384x32, .f32⟩
  | .hbm, ⟨99, _⟩ => ⟨S5x16384x32x1, .f32⟩
  | .hbm, ⟨100, _⟩ => ⟨S5x16384x32, .f32⟩
  | .hbm, ⟨101, _⟩ => ⟨S5x16384x32x1, .f32⟩
  | .hbm, ⟨102, _⟩ => ⟨S5x16384x32, .f32⟩
  | .hbm, ⟨103, _⟩ => ⟨S5x16384x32, .f32⟩
  | .hbm, ⟨104, _⟩ => ⟨S5x16384x32, .f32⟩
  | .hbm, ⟨105, _⟩ => ⟨S5x16384x32, .f32⟩
  | .hbm, ⟨106, _⟩ => ⟨S5x16384x32, .f32⟩
  | .hbm, ⟨107, _⟩ => ⟨S5x16384x32, .f32⟩
  | .hbm, ⟨108, _⟩ => ⟨S5x16384x32, .f32⟩
  | .hbm, ⟨109, _⟩ => ⟨S5x16384x32x1, .f32⟩
  | .hbm, ⟨110, _⟩ => ⟨S5x16384x32x1, .f32⟩
  | .hbm, ⟨111, _⟩ => ⟨S5x16384x32x2, .f32⟩
  | .hbm, ⟨112, _⟩ => ⟨S5x16384x64, .f32⟩
  | .hbm, ⟨113, _⟩ => ⟨S5x16384x64, .bf16⟩
  | .hbm, ⟨114, _⟩ => ⟨S5x64x16384, .bf16⟩
  | .hbm, ⟨115, _⟩ => ⟨S5x2x16384, .f32⟩
  | .hbm, ⟨116, _⟩ => ⟨S5x16384x256, .fp8e4m3⟩
  | .local _ .vmem, ⟨0, _⟩ => ⟨S5x16384x256, .f32⟩
  | .local _ .vmem, ⟨1, _⟩ => ⟨S5x16384x256, .fp8e4m3⟩
  | _, _ => ⟨S5x16384x320, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5x16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x16384x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pre.lean ====
/- The precondition's side conditions, and what it says of the arguments. -/
module

public import proofs.«01_k».proof.Pre_arguments_ok
public import Idealize.ShloMosaic.Lib.Tactic
public import Idealize.ShloMosaic.Lib.Pointwise

@[expose] public section

noncomputable section

namespace Cert.Pre_arguments_ok.Hand

open Idealize.ShloMosaic

theorem facts : Cert.Pre_arguments_ok.Facts := ⟨by decide, by decide⟩

attribute [local instance] facts

/-- The largest finite number of the format is below the next power of two. -/
theorem maxf : Ideal.ofBits .f32 0x7F7FFFFF#32 = (((2 ^ 24 - 1 : ℕ) * (2 : ℝ) ^ (104 : ℤ) : ℝ) : EReal) := by
  simp [Ideal.ofBits, Ideal.ieee]

/-- A gain the precondition allows is a real number. -/
theorem gain (a0 : FVec Ideal S5x16384x320 .bf16) (a1 : FVec Ideal S256 .f32) (a2 : IVec S5 32)
    (h : (fn a0 a1 a2).1 = (fun _ => 1#1)) (j : S256.Idx) : ∃ r : ℝ, (a1 j : EReal) = (r : EReal) ∧ |r| ≤ 2 ^ 128 := by
  have e := congrFun h j
  have e' : BitVec.ofBool (decide (((a1 j : EReal) ⊔ -(a1 j : EReal)) ≤ Ideal.ofBits .f32 0x7F7FFFFF#32)) = 1#1 := e
  have l : ((a1 j : EReal) ⊔ -(a1 j : EReal)) ≤ Ideal.ofBits .f32 0x7F7FFFFF#32 := by
    by_contra hn
    rw [decide_eq_false hn] at e'
    exact absurd e' (by decide)
  obtain ⟨M, hM, hM'⟩ : ∃ M : ℝ, Ideal.ofBits .f32 0x7F7FFFFF#32 = (M : EReal) ∧ M ≤ 2 ^ 128 := ⟨_, maxf, by norm_num⟩
  rw [hM] at l
  generalize (a1 j : EReal) = x at l ⊢
  induction x using EReal.rec with
  | bot => simp at l
  | top => simp at l
  | coe r =>
    refine ⟨r, rfl, ?_⟩
    have l' : ((|r| : ℝ) : EReal) ≤ (M : EReal) := by
      refine le_trans (le_of_eq ?_) l
      rw [abs_eq_max_neg, EReal.coe_strictMono.monotone.map_max, EReal.coe_neg]
    exact le_trans (EReal.coe_le_coe_iff.mp l') hM'

/-- A position the precondition allows leaves room for a row of tokens. -/
theorem position (a0 : FVec Ideal S5x16384x320 .bf16) (a1 : FVec Ideal S256 .f32) (a2 : IVec S5 32)
    (h : (fn a0 a1 a2).2 = (fun _ => 1#1)) (j : S5.Idx) : (a2 j).toInt ≤ 2 ^ 31 - 1 - 16383 := by
  have e := congrFun h j
  have e' : BitVec.ofBool ((a2 j).sle 2147467264#32) = 1#1 := e
  have l : (a2 j).sle 2147467264#32 = true := by
    by_contra hn
    rw [Bool.not_eq_true _ |>.mp hn] at e'
    exact absurd e' (by decide)
  rw [BitVec.sle_iff_toInt_le] at l
  exact l.trans (by decide)

end Cert.Pre_arguments_ok.Hand

end
-- ==== Proof.Kernel.Loops.lean ====
/- The counted loop of the kernel body: what one trip writes, and the loop invariant. The
   `positions` table is held at the share at which the body owns it. -/

module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the generated instances: the frame kit's (Gen/<Name>/Frame.lean). -/
local notation "𝕄G" => MT nD τ sig Unit (Elt F) ℕ (UR sig nD τ) ℕ
/-! ## `cc0_mla_cache_store` -/

/-- The class of invariants of `cc0_mla_cache_store`'s counted loop `k0_t1_loop` (`scf.for %arg16 =
   %c0_i32_7 to %12 step %c1_i32 : i32 {`), trip `k0_t1`, carrying `Unit`, region `Gen.k0_t1_body`.
   Classifier: AFFINE — every store at a `Rect.unit` whose offsets are a stated closed form of the
   trips, nothing carried, no transfer or conditional inside: the invariant is the pieces of the
   trips before `k`. The region loads back what it stores into
   `arg7`, `arg8`, each load's value unused (a slab read before a store into it): the pieces do not
   depend on what the memref held. One trip calls the parts `k0_part2`, `k0_part3`, `k0_part4`,
   `k0_part5`, `k0_part6`, `k0_part7`. Per trip it STORES through arg8 at (k0_off3 k0_t1); arg8 at
   (k0_off4 k0_t1); arg7 at (k0_off5 k0_t1); arg6 at (k0_off8 k0_t1). It LOADS through arg3 at
   (k0_off2 k0_t1); arg9 at ![0, 0]; arg8 at (k0_off3 k0_t1); arg9 at ![128, 0]; arg8 at (k0_off4
   k0_t1); arg7 at (k0_off5 k0_t1); arg3 at (k0_off6 k0_t1); arg12 at ![0, 0]; arg13 at ![0, 0];
   arg14 at ![0, 0]; arg15 at ![0, 0]; arg2 at (k0_off7 i); and more. GENERATED below:
   `Gen.loopInv_k0_t1` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8)

/-! ### `k0_t1_loop`: the generated invariant (classifier: affine) -/

/-- One trip's resources: what the region reads (arg2, arg3, arg9, arg12, arg13, arg14, arg15) at
   its contents, what it writes (arg6, arg7, arg8) at any. -/
abbrev Trip_k0_t1 (c : Dev nD) (arg2 : Memref sig .tc .smem S5 .i32) (arg3 : Memref sig .tc .vmem S1x320x2048 .bf16) (arg9 : Memref sig .tc .vmem S256x128 .f32) (arg12 : Memref sig .tc .vmem S32x128 .f32) (arg13 : Memref sig .tc .vmem S32x128 .f32) (arg14 : Memref sig .tc .vmem S32x128 .f32) (arg15 : Memref sig .tc .vmem S32x128 .f32) (arg6 : Memref sig .tc .vmem S1x64x2048 .bf16) (arg7 : Memref sig .tc .vmem S1x2048x256 .fp8e4m3) (arg8 : Memref sig .tc .vmem S1x2x2048 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (f_arg6 : BufTy.Contents (Elt F) arg6.view.ty) (f_arg7 : BufTy.Contents (Elt F) arg7.view.ty) (f_arg8 : BufTy.Contents (Elt F) arg8.view.ty) : sProp 𝕄G :=
  iprop((arg2.view.loc (c : Thread nD τ) ↦{fullShare.right} X_arg2) ∗ (arg3.view.loc (c : Thread nD τ) ↦[arg3.view.set]{fullShare} X_arg3) ∗ (arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8))

/-- ONE TRIP of `k0_t1_loop` at a symbolic `k`, run by `sl_exec` (its rectangles' offsets closed
   forms of `k`, their geometry linear arithmetic): the pieces it writes into arg6, arg7, arg8 are
   the run's own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) :
    Σ' (L_arg6 : List (View.Piece (Elt F) S1x64x2048 .bf16)) (L_arg7 : List (View.Piece (Elt F) S1x2048x256 .fp8e4m3)) , { L_arg8 : List (View.Piece (Elt F) S1x2x2048 .f32) // ∀ (E : Set ℕ) (f_arg6 : BufTy.Contents (Elt F) arg6.view.ty) (f_arg7 : BufTy.Contents (Elt F) arg7.view.ty) (f_arg8 : BufTy.Contents (Elt F) arg8.view.ty),
      Trip_k0_t1 (F := F) c arg2 arg3 arg9 arg12 arg13 arg14 arg15 arg6 arg7 arg8 X_arg2 X_arg3 X_arg9 X_arg12 X_arg13 X_arg14 X_arg15 f_arg6 f_arg7 f_arg8
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 k PUnit.unit)
          (fun _ => Trip_k0_t1 (F := F) c arg2 arg3 arg9 arg12 arg13 arg14 arg15 arg6 arg7 arg8 X_arg2 X_arg3 X_arg9 X_arg12 X_arg13 X_arg14 X_arg15 (arg6.view.writes (Elt F) f_arg6 L_arg6) (arg7.view.writes (Elt F) f_arg7 L_arg7) (arg8.view.writes (Elt F) f_arg8 L_arg8)) } := by
  have hk : k.val < 8 := Nat.lt_of_lt_of_le k.isLt k0_t1_abs.2.1
  refine ⟨?_, ?_, ?_, fun E f_arg6 f_arg7 f_arg8 => ?run⟩
  case run =>
    unfold k0_t1_body
    iintro ⟨HR_arg2, HR_arg3, HR_arg9, HR_arg12, HR_arg13, HR_arg14, HR_arg15, HW_arg6, HW_arg7, HW_arg8⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) : List (View.Piece (Elt F) S1x64x2048 .bf16) × List (View.Piece (Elt F) S1x2048x256 .fp8e4m3) × List (View.Piece (Elt F) S1x2x2048 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : ℕ) (prev : List (View.Piece (Elt F) S1x64x2048 .bf16) × List (View.Piece (Elt F) S1x2048x256 .fp8e4m3) × List (View.Piece (Elt F) S1x2x2048 .f32)) : List (View.Piece (Elt F) S1x64x2048 .bf16) × List (View.Piece (Elt F) S1x2048x256 .fp8e4m3) × List (View.Piece (Elt F) S1x2x2048 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).2.2 ++ prev.2.2)
  else prev

/-- The pieces of the trips before `k` (last first), per written memref. -/
def pb_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) : ℕ → List (View.Piece (Elt F) S1x64x2048 .bf16) × List (View.Piece (Elt F) S1x2048x256 .fp8e4m3) × List (View.Piece (Elt F) S1x2x2048 .f32)
  | 0 => ([], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k)

theorem pb_k0_t1_succ (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).2.2) := by
  rw [pb_k0_t1.eq_2]; unfold pb_k0_t1Step; exact dif_pos k.isLt

/-- THE INVARIANT before trip `k`: arg2, arg3, arg9, arg12, arg13, arg14, arg15 read at `X_·`; arg6,
   arg7, arg8 holding the pieces of the trips before `k` written over the contents at loop entry
   `G_·` (stated `∃ f, … ∗ ⌜f = …⌝`, so that a hypothesis of any contents matches and the equation
   is what is proved). -/
abbrev inv_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦{fullShare.right} X_arg2) ∗ (arg3.view.loc (c : Thread nD τ) ↦[arg3.view.set]{fullShare} X_arg3) ∗ (arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1⌝) ∗ (∃ f, (arg7.view.loc (c : Thread nD τ) ↦[arg7.view.set]{fullShare} f) ∗ ⌜f = arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (G_arg6 : BufTy.Contents (Elt F) arg6.view.ty) (G_arg7 : BufTy.Contents (Elt F) arg7.view.ty) (G_arg8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 G_arg6 G_arg7 G_arg8
  step k acc := by
    iintro ⟨HR_arg2, HR_arg3, HR_arg9, HR_arg12, HR_arg13, HR_arg14, HR_arg15, ⟨%f_arg6, HW_arg6, %h_arg6⟩, ⟨%f_arg7, HW_arg7, %h_arg7⟩, ⟨%f_arg8, HW_arg8, %h_arg8⟩⟩
    iapply (wp_wand_r Idealize.ShloMosaic.frame (wpE (defs₀ (F := F)) 𝒱 (c : Thread nD τ) bd) E)
    isplitl [HR_arg2 HR_arg3 HR_arg9 HR_arg12 HR_arg13 HR_arg14 HR_arg15 HW_arg6 HW_arg7 HW_arg8]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2.2 E f_arg6 f_arg7 f_arg8)
      isplitl [HR_arg2]; · iexact HR_arg2
      isplitl [HR_arg3]; · iexact HR_arg3
      isplitl [HR_arg9]; · iexact HR_arg9
      isplitl [HR_arg12]; · iexact HR_arg12
      isplitl [HR_arg13]; · iexact HR_arg13
      isplitl [HR_arg14]; · iexact HR_arg14
      isplitl [HR_arg15]; · iexact HR_arg15
      isplitl [HW_arg6]; · iexact HW_arg6
      isplitl [HW_arg7]; · iexact HW_arg7
      iexact HW_arg8
    · iintro %_ ⟨HR_arg2, HR_arg3, HR_arg9, HR_arg12, HR_arg13, HR_arg14, HR_arg15, HW_arg6, HW_arg7, HW_arg8⟩
      isplitl [HR_arg2]; · iexact HR_arg2
      isplitl [HR_arg3]; · iexact HR_arg3
      isplitl [HR_arg9]; · iexact HR_arg9
      isplitl [HR_arg12]; · iexact HR_arg12
      isplitl [HR_arg13]; · iexact HR_arg13
      isplitl [HR_arg14]; · iexact HR_arg14
      isplitl [HR_arg15]; · iexact HR_arg15
      rw [pb_k0_t1_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      iexists _; isplitl [HW_arg8]; · iexact HW_arg8
      ipureintro; rw [h_arg8, ← View.writes_append]

end Cert.Kernel.Hand

end
-- ==== Proof.Kernel.Points.lean ====
/- The facts about each grid point that the frame uses. -/

module

public import proofs.«01_k».proof.Proof.Gen.Kernel
public import Idealize.ShloMosaic.Lib.Pipeline.Kit

@[expose] public section

noncomputable section

namespace Cert.Kernel.Hand

open Cert.Kernel Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%13)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%14)) is fetched at the first point only, at any contents of the tables (its index map reads none). -/
theorem fetch0_1 (a : (pcfg0 (F := F)).Adm) : ∀ t : Fin (cfg0 a).N, ((cfg0 a).win 1).fetch t = true ↔ t.val % 40 = 0 :=
  (fun t => Pipeline.Window.fetchOf_const cc0_transform_1 (fun _ _ => rfl) (n := 40) (by decide) t : ∀ t : Fin grid0.N, Pipeline.Window.fetchOf grid0 false cc0_transform_1 t = true ↔ t.val % 40 = 0)
/-- Window 2 (operand 3 (%12)) is fetched at the first point only, at any contents of the tables (its index map reads none). -/
theorem fetch0_2 (a : (pcfg0 (F := F)).Adm) : ∀ t : Fin (cfg0 a).N, ((cfg0 a).win 2).fetch t = true ↔ t.val % 40 = 0 :=
  (fun t => Pipeline.Window.fetchOf_const cc0_transform_2 (fun _ _ => rfl) (n := 40) (by decide) t : ∀ t : Fin grid0.N, Pipeline.Window.fetchOf grid0 false cc0_transform_2 t = true ↔ t.val % 40 = 0)
/-- Window 3 (result 0 (%15#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 2 (fun _ => rfl) (by decide)) (P := 1) (m := 0) (by decide) rfl t).mpr (Nat.mod_one _) : ∀ t : Fin grid0.N, Pipeline.Window.flushOf grid0 true cc0_transform_3 t = true)
/-- Window 4 (result 1 (%15#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%15#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_cache_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

end Cert.Kernel.Hand

end
-- ==== Proof.Kernel.Runs.lean ====
/- Shared vocabulary of the runs of the kernel body. -/

module

public import proofs.«01_k».proof.Proof.Gen.Kernel.Launch
public import proofs.«01_k».proof.Proof.Gen.Kernel.Skeleton
public import proofs.«01_k».proof.Proof.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points ≡ 0 (mod 8) — by arithmetic of the point. -/
theorem hcond0_1 : ∀ t : Fin grid0.N, cond0_1 (grid0.coords t) ↔ t.val % 8 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x320x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x2048 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x128 .f32 := Memref.whole cc0_scratch0
abbrev scM0_1 : Memref sig .tc .vmem S256x256 .bf16 := Memref.whole cc0_scratch1
abbrev scM0_2 : Memref sig .tc .vmem S96x128 .f32 := Memref.whole cc0_scratch2
abbrev scM0_3 : Memref sig .tc .vmem S32x128 .f32 := Memref.whole cc0_scratch3
abbrev scM0_4 : Memref sig .tc .vmem S32x128 .f32 := Memref.whole cc0_scratch4
abbrev scM0_5 : Memref sig .tc .vmem S32x128 .f32 := Memref.whole cc0_scratch5
abbrev scM0_6 : Memref sig .tc .vmem S32x128 .f32 := Memref.whole cc0_scratch6
/-- The scratch `arg9` the kernel carries between points, as a view: what it holds is stated through it. -/
abbrev VS0_0 : View sig .tc .vmem S256x128 .f32 := scM0_0.view
/-- The scratch `arg11` the kernel carries between points, as a view: what it holds is stated through it. -/
abbrev VS0_2 : View sig .tc .vmem S96x128 .f32 := scM0_2.view
/-- The scratch `arg12` the kernel carries between points, as a view: what it holds is stated through it. -/
abbrev VS0_3 : View sig .tc .vmem S32x128 .f32 := scM0_3.view
/-- The scratch `arg13` the kernel carries between points, as a view: what it holds is stated through it. -/
abbrev VS0_4 : View sig .tc .vmem S32x128 .f32 := scM0_4.view
/-- The scratch `arg14` the kernel carries between points, as a view: what it holds is stated through it. -/
abbrev VS0_5 : View sig .tc .vmem S32x128 .f32 := scM0_5.view
/-- The scratch `arg15` the kernel carries between points, as a view: what it holds is stated through it. -/
abbrev VS0_6 : View sig .tc .vmem S32x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.Kernel.RunA.lean ====
/- The run of the kernel body at the first grid point. -/

module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_A (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : cond0_0 i) (hc1 : cond0_1 i)
    (x0 : Vec F S1x320x2048 .bf16) (x1 : Vec F S1x256 .f32) (x2 : Vec F S1x128 .f32) (xt0 : TbBuf0 (F := F) c tbM0_0) :
    Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_mla_cache_store_eq_skeleton]; unfold cc0_mla_cache_store_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact HT0

end Cert.Kernel.Hand

end
-- ==== Proof.Kernel.RunB.lean ====
/- The run of the kernel body at a point that starts no batch row. -/

module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 39: 35 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_B (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) :
    Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], [], [], fun E K => ?run⟩
  case run =>
    simp only [cc0_mla_cache_store_eq_skeleton]; unfold cc0_mla_cache_store_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%fs5, %hfs5, HS5⟩, ⟨%fs6, %hfs6, HS6⟩, HT0, Hk⟩
    obtain rfl := harg3.eq_unread hf0; obtain rfl := harg4.eq_unread hf1; obtain rfl := harg5.eq_unread hf2; obtain rfl := harg9.eq_unread hfs0; obtain rfl := harg11.eq_unread hfs2; obtain rfl := harg12.eq_unread hfs3; obtain rfl := harg13.eq_unread hfs4; obtain rfl := harg14.eq_unread hfs5; obtain rfl := harg15.eq_unread hfs6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    isplitl [HS3]
    · iexists _; isplitr; · ipureintro; exact harg12.read_unread _
      iexact HS3
    isplitl [HS4]
    · iexists _; isplitr; · ipureintro; exact harg13.read_unread _
      iexact HS4
    isplitl [HS5]
    · iexists _; isplitr; · ipureintro; exact harg14.read_unread _
      iexact HS5
    isplitl [HS6]
    · iexists _; isplitr; · ipureintro; exact harg15.read_unread _
      iexact HS6
    iexact HT0

end Cert.Kernel.Hand

end
-- ==== Proof.Kernel.RunC.lean ====
/- The run of the kernel body at the first point of a later batch row. -/

module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 8, 16, 24, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_C (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) :
    Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, ?_, fun E K => ?run⟩
  case run =>
    simp only [cc0_mla_cache_store_eq_skeleton]; unfold cc0_mla_cache_store_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg9.eq_unread hfs0; obtain rfl := harg11.eq_unread hfs2; obtain rfl := harg12.eq_unread hfs3; obtain rfl := harg13.eq_unread hfs4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    isplitl [HS3]
    · iexists _; isplitr; · ipureintro; exact harg12.read_unread _
      iexact HS3
    isplitl [HS4]
    · iexists _; isplitr; · ipureintro; exact harg13.read_unread _
      iexact HS4
    isplitl [HS5]; · iexists _; iexact HS5
    isplitl [HS6]; · iexists _; iexact HS6
    iexact HT0

end Cert.Kernel.Hand

end
-- ==== Proof.Kernel.Frame.lean ====
/- The launch of the pallas_call, point by point, and the frame claim. -/

module

public import proofs.«01_k».proof.Proof.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Cases

variable (c : Dev nD) (i : grid0.Coords)
  (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole)

/-- Case A's pieces for scratch `arg9`, which the kernel carries between points, cover it: 2 pieces of `S128x128` tiling it (Lib/Ring.lean `Piece.tiledL`). -/
theorem scover0_A_0 (hc0 : cond0_0 i) (hc1 : cond0_1 i)
    (x0 : Vec F S1x320x2048 .bf16) (x1 : Vec F S1x256 .f32) (x2 : Vec F S1x128 .f32) (xt0 : TbBuf0 (F := F) c tbM0_0) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1 S128x128.size (by sl_kernel_rfl) y

/-- What case A leaves in scratch `arg9`: its pieces read back over junk. -/
def sout0_A_0 (hc0 : cond0_0 i) (hc1 : cond0_1 i)
    (x0 : Vec F S1x320x2048 .bf16) (x1 : Vec F S1x256 .f32) (x2 : Vec F S1x128 .f32) (xt0 : TbBuf0 (F := F) c tbM0_0) : Vec F S256x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1)

/-- Case A's pieces for scratch `arg11`, which the kernel carries between points, cover it: 3 pieces of `S32x128` tiling it (Lib/Ring.lean `Piece.tiledL`). -/
theorem scover0_A_2 (hc0 : cond0_0 i) (hc1 : cond0_1 i)
    (x0 : Vec F S1x320x2048 .bf16) (x1 : Vec F S1x256 .f32) (x2 : Vec F S1x128 .f32) (xt0 : TbBuf0 (F := F) c tbM0_0) (y : S96x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1 S32x128.size (by sl_kernel_rfl) y

/-- What case A leaves in scratch `arg11`: its pieces read back over junk. -/
def sout0_A_2 (hc0 : cond0_0 i) (hc1 : cond0_1 i)
    (x0 : Vec F S1x320x2048 .bf16) (x1 : Vec F S1x256 .f32) (x2 : Vec F S1x128 .f32) (xt0 : TbBuf0 (F := F) c tbM0_0) : Vec F S96x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1)

/-- Case A's pieces for scratch `arg12`, which the kernel carries between points, cover it: 1 piece of `S32x128` tiling it (Lib/Ring.lean `Piece.tiledL`). -/
theorem scover0_A_3 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1 S32x128.size (by sl_kernel_rfl) y

/-- What case A leaves in scratch `arg12`: its pieces read back over junk. -/
def sout0_A_3 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1)

/-- Case A's pieces for scratch `arg13`, which the kernel carries between points, cover it: 1 piece of `S32x128` tiling it (Lib/Ring.lean `Piece.tiledL`). -/
theorem scover0_A_4 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1 S32x128.size (by sl_kernel_rfl) y

/-- What case A leaves in scratch `arg13`: its pieces read back over junk. -/
def sout0_A_4 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1)

/-- Case A's pieces for scratch `arg14`, which the kernel carries between points, cover it: 1 piece of `S32x128` tiling it (Lib/Ring.lean `Piece.tiledL`). -/
theorem scover0_A_5 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1 S32x128.size (by sl_kernel_rfl) y

/-- What case A leaves in scratch `arg14`: its pieces read back over junk. -/
def sout0_A_5 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_5.read (Elt F) (VS0_5.writes (Elt F) VS0_5.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1)

/-- Case A's pieces for scratch `arg15`, which the kernel carries between points, cover it: 1 piece of `S32x128` tiling it (Lib/Ring.lean `Piece.tiledL`). -/
theorem scover0_A_6 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1 S32x128.size (by sl_kernel_rfl) y

/-- What case A leaves in scratch `arg15`: its pieces read back over junk. -/
def sout0_A_6 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_6.read (Elt F) (VS0_6.writes (Elt F) VS0_6.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1)

/-- Case B stores nothing into scratch `arg9`: it holds what the point before left. -/
def sout0_B_0 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S256x128 .f32 := xs0

/-- Case B stores nothing into scratch `arg11`: it holds what the point before left. -/
def sout0_B_2 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S96x128 .f32 := xs2

/-- Case B stores nothing into scratch `arg12`: it holds what the point before left. -/
def sout0_B_3 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs3

/-- Case B stores nothing into scratch `arg13`: it holds what the point before left. -/
def sout0_B_4 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs4

/-- Case B stores nothing into scratch `arg14`: it holds what the point before left. -/
def sout0_B_5 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs5

/-- Case B stores nothing into scratch `arg15`: it holds what the point before left. -/
def sout0_B_6 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs6

/-- Case C stores nothing into scratch `arg9`: it holds what the point before left. -/
def sout0_C_0 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S256x128 .f32 := xs0

/-- Case C stores nothing into scratch `arg11`: it holds what the point before left. -/
def sout0_C_2 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S96x128 .f32 := xs2

/-- Case C stores nothing into scratch `arg12`: it holds what the point before left. -/
def sout0_C_3 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 := xs3

/-- Case C stores nothing into scratch `arg13`: it holds what the point before left. -/
def sout0_C_4 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 := xs4

/-- Case C's pieces for scratch `arg14`, which the kernel carries between points, cover it: 1 piece of `S32x128` tiling it (Lib/Ring.lean `Piece.tiledL`). -/
theorem scover0_C_5 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S32x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.1 S32x128.size (by sl_kernel_rfl) y

/-- What case C leaves in scratch `arg14`: its pieces read back over junk. -/
def sout0_C_5 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 :=
  VS0_5.read (Elt F) (VS0_5.writes (Elt F) VS0_5.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.1)

/-- Case C's pieces for scratch `arg15`, which the kernel carries between points, cover it: 1 piece of `S32x128` tiling it (Lib/Ring.lean `Piece.tiledL`). -/
theorem scover0_C_6 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S32x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.1 S32x128.size (by sl_kernel_rfl) y

/-- What case C leaves in scratch `arg15`: its pieces read back over junk. -/
def sout0_C_6 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 :=
  VS0_6.read (Elt F) (VS0_6.writes (Elt F) VS0_6.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.1)

end Cases

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S256x128 .f32 × Vec F S96x128 .f32 × Vec F S32x128 .f32 × Vec F S32x128 .f32 × Vec F S32x128 .f32 × Vec F S32x128 .f32
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0))
  | n + 1, hn =>
    if h0 : (n + 1) % 40 = 0 then
      if h1 : (n + 1) % 8 = 0 then
        (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0))
      else
        False.elim (by have hN : n + 1 < 40 := lt_of_lt_of_eq hn (show (cfgM m hO).N = 40 from N_0); omega)
    else
      if h1 : (n + 1) % 8 = 0 then
        (sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1, sout0_C_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1, sout0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1, sout0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1, sout0_C_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1)
      else
        (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2)

/-- `outsAt0` at a point of case A: that case's contents. -/
theorem outsAt0_A (hO : Ok m) (c : Dev nD) (t : Fin (cfgM m hO).N) (h0 : t.val % 40 = 0) (h1 : t.val % 8 = 0) :
    outsAt0 m hO c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0)) := by
  obtain ⟨n, hn⟩ := t
  cases n with
  | zero => exact rfl
  | succ n => exact (dif_pos h0).trans ((dif_pos h1).trans rfl)

/-- `outsAt0` at a point of case B: that case's contents, over what the point before left. -/
theorem outsAt0_B (hO : Ok m) (c : Dev nD) (t : Fin (cfgM m hO).N) (h0 : ¬t.val % 40 = 0) (h1 : ¬t.val % 8 = 0) :
    outsAt0 m hO c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (hO : Ok m) (c : Dev nD) (t : Fin (cfgM m hO).N) (h0 : ¬t.val % 40 = 0) (h1 : t.val % 8 = 0) :
    outsAt0 m hO c t.val t.isLt = (sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1, sout0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1, sout0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1, sout0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1, sout0_C_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).1) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2.1) ∗ owns (c : Thread nD τ) scM0_5 fullShare ((outsAt0 m hO c n hn).2.2.2.2.1) ∗ owns (c : Thread nD τ) scM0_6 fullShare ((outsAt0 m hO c n hn).2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).1) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2.1) ∗ owns (c : Thread nD τ) scM0_5 fullShare ((outsAt0 m hO c n hn).2.2.2.2.1) ∗ owns (c : Thread nD τ) scM0_6 fullShare ((outsAt0 m hO c n hn).2.2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).1) ∗ (∃ d, owns (c : Thread nD τ) scM0_1 fullShare d) ∗ owns (c : Thread nD τ) scM0_2 fullShare ((outsAt0 m hO c (n - 1) (by omega)).2.1) ∗ owns (c : Thread nD τ) scM0_3 fullShare ((outsAt0 m hO c (n - 1) (by omega)).2.2.1) ∗ owns (c : Thread nD τ) scM0_4 fullShare ((outsAt0 m hO c (n - 1) (by omega)).2.2.2.1) ∗ owns (c : Thread nD τ) scM0_5 fullShare ((outsAt0 m hO c (n - 1) (by omega)).2.2.2.2.1) ∗ owns (c : Thread nD τ) scM0_6 fullShare ((outsAt0 m hO c (n - 1) (by omega)).2.2.2.2.2)) ∗ (∃ r, prngReg c r)) ∗ Pipeline.ΦT pre0 (tbl m) c) := by
  cases n with
  | zero => exact absurd rfl hz
  | succ n => rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2]
  rw [show (dats m hO 0 c).Φ t.succ = PhiS m hO c (t.val + 1) t.isLt from rfl, PhiS_succ, PhiT0_eq]
  have hN : t.val < 40 := lt_of_lt_of_eq t.isLt (show (cfgM m hO).N = 40 from N_0)
  by_cases h0 : t.val % 40 = 0
  · by_cases h1 : t.val % 8 = 0
    · by_cases hz : t.val = 0
      · rw [PhiS_castSucc m hO c t, PhiS_zero m hO c _ _ hz, PhiT0_eq, PhiA0_eq]
        rw [outsAt0_A m hO c t h0 h1]
        unfold sout0_A_0 sout0_A_2 sout0_A_3 sout0_A_4 sout0_A_5 sout0_A_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ _ _ _ _ ((hcond0_0 t).mpr h0) ((hcond0_1 t).mpr h1) (iblk m hO c 0 t) (iblk m hO c 1 t) (iblk m hO c 2 t) (tbl m 0)).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        iintro ⟨H0, H1, H2, H3, H4, H5, ⟨%es0, HS0⟩, HS1, ⟨%es2, HS2⟩, ⟨%es3, HS3⟩, ⟨%es4, HS4⟩, ⟨%es5, HS5⟩, ⟨%es6, HS6⟩, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _ _ _ _ _)
              isplitl [HS5]
              · unfold owns; iexists _; isplitr
                swap; · iexact HS5
                ipureintro; exact View.read_writes_of_cover _ _ _ _ _ (scover0_A_5 c _ _ _ _ _ _ _ _ _ _ _ _ _ _ _ _ _ _ _ _ _ _ _ _ _ _ _ _ _ _ _ _ _)
              unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
      · exfalso; have hN : t.val < 40 := lt_of_lt_of_eq t.isLt (show (cfgM m hO).N = 40 from N_0); omega
    · exfalso; omega
  · by_cases h1 : t.val % 8 = 0
    · by_cases hz : t.val = 0
      · exfalso; have hN : t.val < 40 := lt_of_lt_of_eq t.isLt (show (cfgM m hO).N = 40 from N_0); omega
      · rw [PhiS_castSucc m hO c t, PhiS_pos m hO c _ _ hz, PhiT0_eq]
        rw [outsAt0_C m hO c t h0 h1]
        unfold sout0_C_0 sout0_C_2 sout0_C_3 sout0_C_4 sout0_C_5 sout0_C_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (tbl m 0) _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexists _; iexact HS5
        isplitl [HS6]; · iexists _; iexact HS6
        isplitl [HT0]; · iexact HT0
        iintro ⟨H0, H1, H2, H3, H4, H5, HS0, HS1, HS2, HS3, HS4, ⟨%es5, HS5⟩, ⟨%es6, HS6⟩, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · unfold owns; iexists _; isplitr
                swap; · iexact HS5
                ipureintro; exact View.read_writes_of_cover _ _ _ _ _ (scover0_C_5 c _ _ _ _ _ _ _ _ _ _ _ _ _ _ _ _ _ _ _ _ _ _ _ _ _ _ _ _ _ _ _ _ _ _ _ _ _)
              unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
    · by_cases hz : t.val = 0
      · exfalso; have hN : t.val < 40 := lt_of_lt_of_eq t.isLt (show (cfgM m hO).N = 40 from N_0); omega
      · rw [PhiS_castSucc m hO c t, PhiS_pos m hO c _ _ hz, PhiT0_eq]
        rw [outsAt0_B m hO c t h0 h1]
        unfold sout0_B_0 sout0_B_2 sout0_B_3 sout0_B_4 sout0_B_5 sout0_B_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (tbl m 0) _ _ _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        iintro ⟨H0, H1, H2, H3, H4, H5, HS0, HS1, HS2, HS3, HS4, HS5, HS6, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4, HS5, HS6⟩, Hg⟩, -⟩
  isplitl [HS0 HS1 HS2 HS3 HS4 HS5 HS6]
  · isplitl [HS0]
    · iexists _; iexact HS0
    isplitl [HS1]
    · iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 40 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.Kernel.Hand

end
-- ==== Proof.KernelIdeal.Loops.lean ====
/- The counted loop of the kernel body: what one trip writes, and the loop invariant. The
   `positions` table is held at the share at which the body owns it. -/

module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_mla_cache_store` -/

/-- The class of invariants of `cc0_mla_cache_store`'s counted loop `k0_t1_loop` (`scf.for %arg16 =
   %c0_i32_7 to %12 step %c1_i32 : i32 {`), trip `k0_t1`, carrying `Unit`, region `Gen.k0_t1_body`.
   Classifier: AFFINE — every store at a `Rect.unit` whose offsets are a stated closed form of the
   trips, nothing carried, no transfer or conditional inside: the invariant is the pieces of the
   trips before `k`. The region loads back what it stores into
   `arg7`, `arg8`, each load's value unused (a slab read before a store into it): the pieces do not
   depend on what the memref held. One trip calls the parts `k0_part2`, `k0_part3`, `k0_part4`,
   `k0_part5`, `k0_part6`, `k0_part7`. Per trip it STORES through arg8 at (k0_off3 k0_t1); arg8 at
   (k0_off4 k0_t1); arg7 at (k0_off5 k0_t1); arg6 at (k0_off8 k0_t1). It LOADS through arg3 at
   (k0_off2 k0_t1); arg9 at ![0, 0]; arg8 at (k0_off3 k0_t1); arg9 at ![128, 0]; arg8 at (k0_off4
   k0_t1); arg7 at (k0_off5 k0_t1); arg3 at (k0_off6 k0_t1); arg12 at ![0, 0]; arg13 at ![0, 0];
   arg14 at ![0, 0]; arg15 at ![0, 0]; arg2 at (k0_off7 i); and more. GENERATED below:
   `Gen.loopInv_k0_t1` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8)

/-! ### `k0_t1_loop`: the generated invariant (classifier: affine) -/

/-- One trip's resources: what the region reads (arg2, arg3, arg9, arg12, arg13, arg14, arg15) at
   its contents, what it writes (arg6, arg7, arg8) at any. -/
abbrev Trip_k0_t1 (c : Dev nD) (arg2 : Memref sig .tc .smem S5 .i32) (arg3 : Memref sig .tc .vmem S1x320x2048 .bf16) (arg9 : Memref sig .tc .vmem S256x128 .f32) (arg12 : Memref sig .tc .vmem S32x128 .f32) (arg13 : Memref sig .tc .vmem S32x128 .f32) (arg14 : Memref sig .tc .vmem S32x128 .f32) (arg15 : Memref sig .tc .vmem S32x128 .f32) (arg6 : Memref sig .tc .vmem S1x64x2048 .bf16) (arg7 : Memref sig .tc .vmem S1x2048x256 .fp8e4m3) (arg8 : Memref sig .tc .vmem S1x2x2048 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (f_arg6 : BufTy.Contents (Elt F) arg6.view.ty) (f_arg7 : BufTy.Contents (Elt F) arg7.view.ty) (f_arg8 : BufTy.Contents (Elt F) arg8.view.ty) : sProp 𝕄G :=
  iprop((arg2.view.loc (c : Thread nD τ) ↦{fullShare.right} X_arg2) ∗ (arg3.view.loc (c : Thread nD τ) ↦[arg3.view.set]{fullShare} X_arg3) ∗ (arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8))

/-- ONE TRIP of `k0_t1_loop` at a symbolic `k`, run by `sl_exec` (its rectangles' offsets closed
   forms of `k`, their geometry linear arithmetic): the pieces it writes into arg6, arg7, arg8 are
   the run's own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) :
    Σ' (L_arg6 : List (View.Piece (Elt F) S1x64x2048 .bf16)) (L_arg7 : List (View.Piece (Elt F) S1x2048x256 .fp8e4m3)) , { L_arg8 : List (View.Piece (Elt F) S1x2x2048 .f32) // ∀ (E : Set ℕ) (f_arg6 : BufTy.Contents (Elt F) arg6.view.ty) (f_arg7 : BufTy.Contents (Elt F) arg7.view.ty) (f_arg8 : BufTy.Contents (Elt F) arg8.view.ty),
      Trip_k0_t1 (F := F) c arg2 arg3 arg9 arg12 arg13 arg14 arg15 arg6 arg7 arg8 X_arg2 X_arg3 X_arg9 X_arg12 X_arg13 X_arg14 X_arg15 f_arg6 f_arg7 f_arg8
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 k PUnit.unit)
          (fun _ => Trip_k0_t1 (F := F) c arg2 arg3 arg9 arg12 arg13 arg14 arg15 arg6 arg7 arg8 X_arg2 X_arg3 X_arg9 X_arg12 X_arg13 X_arg14 X_arg15 (arg6.view.writes (Elt F) f_arg6 L_arg6) (arg7.view.writes (Elt F) f_arg7 L_arg7) (arg8.view.writes (Elt F) f_arg8 L_arg8)) } := by
  have hk : k.val < 8 := Nat.lt_of_lt_of_le k.isLt k0_t1_abs.2.1
  refine ⟨?_, ?_, ?_, fun E f_arg6 f_arg7 f_arg8 => ?run⟩
  case run =>
    unfold k0_t1_body
    iintro ⟨HR_arg2, HR_arg3, HR_arg9, HR_arg12, HR_arg13, HR_arg14, HR_arg15, HW_arg6, HW_arg7, HW_arg8⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) : List (View.Piece (Elt F) S1x64x2048 .bf16) × List (View.Piece (Elt F) S1x2048x256 .fp8e4m3) × List (View.Piece (Elt F) S1x2x2048 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : ℕ) (prev : List (View.Piece (Elt F) S1x64x2048 .bf16) × List (View.Piece (Elt F) S1x2048x256 .fp8e4m3) × List (View.Piece (Elt F) S1x2x2048 .f32)) : List (View.Piece (Elt F) S1x64x2048 .bf16) × List (View.Piece (Elt F) S1x2048x256 .fp8e4m3) × List (View.Piece (Elt F) S1x2x2048 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨k, h⟩).2.2 ++ prev.2.2)
  else prev

/-- The pieces of the trips before `k` (last first), per written memref. -/
def pb_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) : ℕ → List (View.Piece (Elt F) S1x64x2048 .bf16) × List (View.Piece (Elt F) S1x2048x256 .fp8e4m3) × List (View.Piece (Elt F) S1x2x2048 .f32)
  | 0 => ([], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k)

theorem pb_k0_t1_succ (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k.val).2.2) := by
  rw [pb_k0_t1.eq_2]; unfold pb_k0_t1Step; exact dif_pos k.isLt

/-- THE INVARIANT before trip `k`: arg2, arg3, arg9, arg12, arg13, arg14, arg15 read at `X_·`; arg6,
   arg7, arg8 holding the pieces of the trips before `k` written over the contents at loop entry
   `G_·` (stated `∃ f, … ∗ ⌜f = …⌝`, so that a hypothesis of any contents matches and the equation
   is what is proved). -/
abbrev inv_k0_t1 (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦{fullShare.right} X_arg2) ∗ (arg3.view.loc (c : Thread nD τ) ↦[arg3.view.set]{fullShare} X_arg3) ∗ (arg9.view.loc (c : Thread nD τ) ↦[arg9.view.set]{fullShare} X_arg9) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1⌝) ∗ (∃ f, (arg7.view.loc (c : Thread nD τ) ↦[arg7.view.set]{fullShare} f) ∗ ⌜f = arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec F S32x128 .f32) (v7 : Vec F S32x128 .f32) (v8 : Vec F S32x128 .f32) (X_arg2 : BufTy.Contents (Elt F) arg2.view.ty) (X_arg3 : BufTy.Contents (Elt F) arg3.view.ty) (X_arg9 : BufTy.Contents (Elt F) arg9.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (G_arg6 : BufTy.Contents (Elt F) arg6.view.ty) (G_arg7 : BufTy.Contents (Elt F) arg7.view.ty) (G_arg8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 G_arg6 G_arg7 G_arg8
  step k acc := by
    iintro ⟨HR_arg2, HR_arg3, HR_arg9, HR_arg12, HR_arg13, HR_arg14, HR_arg15, ⟨%f_arg6, HW_arg6, %h_arg6⟩, ⟨%f_arg7, HW_arg7, %h_arg7⟩, ⟨%f_arg8, HW_arg8, %h_arg8⟩⟩
    iapply (wp_wand_r Idealize.ShloMosaic.frame (wpE (defs₀ (F := F)) 𝒱 (c : Thread nD τ) bd) E)
    isplitl [HR_arg2 HR_arg3 HR_arg9 HR_arg12 HR_arg13 HR_arg14 HR_arg15 HW_arg6 HW_arg7 HW_arg8]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2.2 E f_arg6 f_arg7 f_arg8)
      isplitl [HR_arg2]; · iexact HR_arg2
      isplitl [HR_arg3]; · iexact HR_arg3
      isplitl [HR_arg9]; · iexact HR_arg9
      isplitl [HR_arg12]; · iexact HR_arg12
      isplitl [HR_arg13]; · iexact HR_arg13
      isplitl [HR_arg14]; · iexact HR_arg14
      isplitl [HR_arg15]; · iexact HR_arg15
      isplitl [HW_arg6]; · iexact HW_arg6
      isplitl [HW_arg7]; · iexact HW_arg7
      iexact HW_arg8
    · iintro %_ ⟨HR_arg2, HR_arg3, HR_arg9, HR_arg12, HR_arg13, HR_arg14, HR_arg15, HW_arg6, HW_arg7, HW_arg8⟩
      isplitl [HR_arg2]; · iexact HR_arg2
      isplitl [HR_arg3]; · iexact HR_arg3
      isplitl [HR_arg9]; · iexact HR_arg9
      isplitl [HR_arg12]; · iexact HR_arg12
      isplitl [HR_arg13]; · iexact HR_arg13
      isplitl [HR_arg14]; · iexact HR_arg14
      isplitl [HR_arg15]; · iexact HR_arg15
      rw [pb_k0_t1_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      iexists _; isplitl [HW_arg8]; · iexact HW_arg8
      ipureintro; rw [h_arg8, ← View.writes_append]

end Cert.KernelIdeal.Hand

end
-- ==== Proof.KernelIdeal.Points.lean ====
/- The facts about each grid point that the frame uses. -/

module

public import proofs.«01_k».proof.Proof.Gen.KernelIdeal
public import Idealize.ShloMosaic.Lib.Pipeline.Kit

@[expose] public section

noncomputable section

namespace Cert.KernelIdeal.Hand

open Cert.KernelIdeal Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%13)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%14)) is fetched at the first point only, at any contents of the tables (its index map reads none). -/
theorem fetch0_1 (a : (pcfg0 (F := F)).Adm) : ∀ t : Fin (cfg0 a).N, ((cfg0 a).win 1).fetch t = true ↔ t.val % 40 = 0 :=
  (fun t => Pipeline.Window.fetchOf_const cc0_transform_1 (fun _ _ => rfl) (n := 40) (by decide) t : ∀ t : Fin grid0.N, Pipeline.Window.fetchOf grid0 false cc0_transform_1 t = true ↔ t.val % 40 = 0)
/-- Window 2 (operand 3 (%12)) is fetched at the first point only, at any contents of the tables (its index map reads none). -/
theorem fetch0_2 (a : (pcfg0 (F := F)).Adm) : ∀ t : Fin (cfg0 a).N, ((cfg0 a).win 2).fetch t = true ↔ t.val % 40 = 0 :=
  (fun t => Pipeline.Window.fetchOf_const cc0_transform_2 (fun _ _ => rfl) (n := 40) (by decide) t : ∀ t : Fin grid0.N, Pipeline.Window.fetchOf grid0 false cc0_transform_2 t = true ↔ t.val % 40 = 0)
/-- Window 3 (result 0 (%15#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 2 (fun _ => rfl) (by decide)) (P := 1) (m := 0) (by decide) rfl t).mpr (Nat.mod_one _) : ∀ t : Fin grid0.N, Pipeline.Window.flushOf grid0 true cc0_transform_3 t = true)
/-- Window 4 (result 1 (%15#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%15#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 2 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_cache_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

end Cert.KernelIdeal.Hand

end
-- ==== Proof.KernelIdeal.Runs.lean ====
/- Shared vocabulary of the runs of the kernel body. -/

module

public import proofs.«01_k».proof.Proof.Gen.KernelIdeal.Launch
public import proofs.«01_k».proof.Proof.Gen.KernelIdeal.Skeleton
public import proofs.«01_k».proof.Proof.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points ≡ 0 (mod 8) — by arithmetic of the point. -/
theorem hcond0_1 : ∀ t : Fin grid0.N, cond0_1 (grid0.coords t) ↔ t.val % 8 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-! ## The kernel body on any staging memrefs: a subtype the run finds -/

/-- One staging buffer of output window 3, through which its contents are stated (`View.read_writes_of_cover`: the
    choice does not matter). -/
abbrev VO0_3 : View sig .tc .vmem S1x64x2048 .bf16 := (Memref.whole cc0_stg3_0 : Memref sig .tc .vmem S1x64x2048 .bf16).view
/-- One staging buffer of output window 4, through which its contents are stated (`View.read_writes_of_cover`: the
    choice does not matter). -/
abbrev VO0_4 : View sig .tc .vmem S1x2048x256 .fp8e4m3 := (Memref.whole cc0_stg4_0 : Memref sig .tc .vmem S1x2048x256 .fp8e4m3).view
/-- One staging buffer of output window 5, through which its contents are stated (`View.read_writes_of_cover`: the
    choice does not matter). -/
abbrev VO0_5 : View sig .tc .vmem S1x2x2048 .f32 := (Memref.whole cc0_stg5_0 : Memref sig .tc .vmem S1x2x2048 .f32).view
/-- Each window's current staging memref at point `t`, spelled as the pipeline passes it (`bodyAt0`), and its wholeness. -/
abbrev ms0_0 (hO : Ok m) (t : Fin (cfgM m hO).N) : Memref sig .tc .vmem S1x320x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x2048 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S256x128 .f32 := Memref.whole cc0_scratch0
abbrev scM0_1 : Memref sig .tc .vmem S256x256 .bf16 := Memref.whole cc0_scratch1
abbrev scM0_2 : Memref sig .tc .vmem S96x128 .f32 := Memref.whole cc0_scratch2
abbrev scM0_3 : Memref sig .tc .vmem S32x128 .f32 := Memref.whole cc0_scratch3
abbrev scM0_4 : Memref sig .tc .vmem S32x128 .f32 := Memref.whole cc0_scratch4
abbrev scM0_5 : Memref sig .tc .vmem S32x128 .f32 := Memref.whole cc0_scratch5
abbrev scM0_6 : Memref sig .tc .vmem S32x128 .f32 := Memref.whole cc0_scratch6
/-- The scratch `arg9` the kernel carries between points, as a view: what it holds is stated through it. -/
abbrev VS0_0 : View sig .tc .vmem S256x128 .f32 := scM0_0.view
/-- The scratch `arg11` the kernel carries between points, as a view: what it holds is stated through it. -/
abbrev VS0_2 : View sig .tc .vmem S96x128 .f32 := scM0_2.view
/-- The scratch `arg12` the kernel carries between points, as a view: what it holds is stated through it. -/
abbrev VS0_3 : View sig .tc .vmem S32x128 .f32 := scM0_3.view
/-- The scratch `arg13` the kernel carries between points, as a view: what it holds is stated through it. -/
abbrev VS0_4 : View sig .tc .vmem S32x128 .f32 := scM0_4.view
/-- The scratch `arg14` the kernel carries between points, as a view: what it holds is stated through it. -/
abbrev VS0_5 : View sig .tc .vmem S32x128 .f32 := scM0_5.view
/-- The scratch `arg15` the kernel carries between points, as a view: what it holds is stated through it. -/
abbrev VS0_6 : View sig .tc .vmem S32x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.KernelIdeal.RunA.lean ====
/- The run of the kernel body at the first grid point. -/

module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : cond0_0 i) (hc1 : cond0_1 i)
    (x0 : Vec F S1x320x2048 .bf16) (x1 : Vec F S1x256 .f32) (x2 : Vec F S1x128 .f32) (xt0 : TbBuf0 (F := F) c tbM0_0) :
    Σ' (L3 : List (View.Piece (Elt F) S1x64x2048 .bf16)), Σ' (L4 : List (View.Piece (Elt F) S1x2048x256 .fp8e4m3)), Σ' (L5 : List (View.Piece (Elt F) S1x2x2048 .f32)), Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun E K => ?run⟩
  case run =>
    simp only [cc0_mla_cache_store_eq_skeleton]; unfold cc0_mla_cache_store_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact HT0

end Cert.KernelIdeal.Hand

end
-- ==== Proof.KernelIdeal.RunB.lean ====
/- The run of the kernel body at a point that starts no batch row. -/

module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 39: 35 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) :
    Σ' (L3 : List (View.Piece (Elt F) S1x64x2048 .bf16)), Σ' (L4 : List (View.Piece (Elt F) S1x2048x256 .fp8e4m3)), Σ' (L5 : List (View.Piece (Elt F) S1x2x2048 .f32)), Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ owns (c : Thread nD τ) arg14 fullShare xs5 ∗ owns (c : Thread nD τ) arg15 fullShare xs6 ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], [], [], [], [], fun E K => ?run⟩
  case run =>
    simp only [cc0_mla_cache_store_eq_skeleton]; unfold cc0_mla_cache_store_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%fs5, %hfs5, HS5⟩, ⟨%fs6, %hfs6, HS6⟩, HT0, Hk⟩
    obtain rfl := harg3.eq_unread hf0; obtain rfl := harg4.eq_unread hf1; obtain rfl := harg5.eq_unread hf2; obtain rfl := harg9.eq_unread hfs0; obtain rfl := harg11.eq_unread hfs2; obtain rfl := harg12.eq_unread hfs3; obtain rfl := harg13.eq_unread hfs4; obtain rfl := harg14.eq_unread hfs5; obtain rfl := harg15.eq_unread hfs6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    isplitl [HS3]
    · iexists _; isplitr; · ipureintro; exact harg12.read_unread _
      iexact HS3
    isplitl [HS4]
    · iexists _; isplitr; · ipureintro; exact harg13.read_unread _
      iexact HS4
    isplitl [HS5]
    · iexists _; isplitr; · ipureintro; exact harg14.read_unread _
      iexact HS5
    isplitl [HS6]
    · iexists _; isplitr; · ipureintro; exact harg15.read_unread _
      iexact HS6
    iexact HT0

end Cert.KernelIdeal.Hand

end
-- ==== Proof.KernelIdeal.RunC.lean ====
/- The run of the kernel body at the first point of a later batch row. -/

module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 8, 16, 24, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) :
    Σ' (L3 : List (View.Piece (Elt F) S1x64x2048 .bf16)), Σ' (L4 : List (View.Piece (Elt F) S1x2048x256 .fp8e4m3)), Σ' (L5 : List (View.Piece (Elt F) S1x2x2048 .f32)), Σ' (LS0 : List (View.Piece (Elt F) S256x128 .f32)), Σ' (LS2 : List (View.Piece (Elt F) S96x128 .f32)), Σ' (LS3 : List (View.Piece (Elt F) S32x128 .f32)), Σ' (LS4 : List (View.Piece (Elt F) S32x128 .f32)), Σ' (LS5 : List (View.Piece (Elt F) S32x128 .f32)), { LS6 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ owns (c : Thread nD τ) arg9 fullShare xs0 ∗ (∃ d, owns (c : Thread nD τ) arg10 fullShare d) ∗ owns (c : Thread nD τ) arg11 fullShare xs2 ∗ owns (c : Thread nD τ) arg12 fullShare xs3 ∗ owns (c : Thread nD τ) arg13 fullShare xs4 ∗ (∃ f, arg14.view.loc (c : Thread nD τ) ↦[arg14.view.set]{fullShare} arg14.view.writes (Elt F) f LS5) ∗ (∃ f, arg15.view.loc (c : Thread nD τ) ↦[arg15.view.set]{fullShare} arg15.view.writes (Elt F) f LS6) ∗ tbPt0 c tbM0_0 xt0) -∗ K ⟨⟩))
          ⊢ wp frame (wpE (defs₀ (F := F)) Variants.none c none) E (cc0_mla_cache_store i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], [], [], ?_, ?_, fun E K => ?run⟩
  case run =>
    simp only [cc0_mla_cache_store_eq_skeleton]; unfold cc0_mla_cache_store_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg9.eq_unread hfs0; obtain rfl := harg11.eq_unread hfs2; obtain rfl := harg12.eq_unread hfs3; obtain rfl := harg13.eq_unread hfs4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    isplitl [HS3]
    · iexists _; isplitr; · ipureintro; exact harg12.read_unread _
      iexact HS3
    isplitl [HS4]
    · iexists _; isplitr; · ipureintro; exact harg13.read_unread _
      iexact HS4
    isplitl [HS5]; · iexists _; iexact HS5
    isplitl [HS6]; · iexists _; iexact HS6
    iexact HT0

end Cert.KernelIdeal.Hand

end
-- ==== Proof.KernelIdeal.Frame.lean ====
/- The launch of the pallas_call, point by point, and the frame claim. -/

module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases

variable (c : Dev nD) (i : grid0.Coords)
  (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole)

/-- Case A's pieces for output 3 tile its block (8 stores of `S1x64x256`, checked by the kernel's evaluation: Lib/Ring.lean `Piece.tiledL`, linear in the pieces, through a loop's `@[irreducible]` trip theorem too), so they cover it. -/
theorem cover0_A_3 (hc0 : cond0_0 i) (hc1 : cond0_1 i)
    (x0 : Vec F S1x320x2048 .bf16) (x1 : Vec F S1x256 .f32) (x2 : Vec F S1x128 .f32) (xt0 : TbBuf0 (F := F) c tbM0_0) (y : S1x64x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1 S1x64x256.size (by sl_kernel_rfl) y

/-- What case A leaves in output 3's staging buffer: its pieces read back over junk. -/
def out0_A_3 (hc0 : cond0_0 i) (hc1 : cond0_1 i)
    (x0 : Vec F S1x320x2048 .bf16) (x1 : Vec F S1x256 .f32) (x2 : Vec F S1x128 .f32) (xt0 : TbBuf0 (F := F) c tbM0_0) : Vec F S1x64x2048 .bf16 :=
  VO0_3.read (Elt F) (VO0_3.writes (Elt F) VO0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).1)

/-- Case A's pieces for output 4 tile its block (8 stores of `S1x256x256`, checked by the kernel's evaluation: Lib/Ring.lean `Piece.tiledL`, linear in the pieces, through a loop's `@[irreducible]` trip theorem too), so they cover it. -/
theorem cover0_A_4 (hc0 : cond0_0 i) (hc1 : cond0_1 i)
    (x0 : Vec F S1x320x2048 .bf16) (x1 : Vec F S1x256 .f32) (x2 : Vec F S1x128 .f32) (xt0 : TbBuf0 (F := F) c tbM0_0) (y : S1x2048x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1 S1x256x256.size (by sl_kernel_rfl) y

/-- What case A leaves in output 4's staging buffer: its pieces read back over junk. -/
def out0_A_4 (hc0 : cond0_0 i) (hc1 : cond0_1 i)
    (x0 : Vec F S1x320x2048 .bf16) (x1 : Vec F S1x256 .f32) (x2 : Vec F S1x128 .f32) (xt0 : TbBuf0 (F := F) c tbM0_0) : Vec F S1x2048x256 .fp8e4m3 :=
  VO0_4.read (Elt F) (VO0_4.writes (Elt F) VO0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.1)

/-- Case A's pieces for output 5 tile its block (16 stores of `S1x1x256`, checked by the kernel's evaluation: Lib/Ring.lean `Piece.tiledL`, linear in the pieces, through a loop's `@[irreducible]` trip theorem too), so they cover it. -/
theorem cover0_A_5 (hc0 : cond0_0 i) (hc1 : cond0_1 i)
    (x0 : Vec F S1x320x2048 .bf16) (x1 : Vec F S1x256 .f32) (x2 : Vec F S1x128 .f32) (xt0 : TbBuf0 (F := F) c tbM0_0) (y : S1x2x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1 S1x1x256.size (by sl_kernel_rfl) y

/-- What case A leaves in output 5's staging buffer: its pieces read back over junk. -/
def out0_A_5 (hc0 : cond0_0 i) (hc1 : cond0_1 i)
    (x0 : Vec F S1x320x2048 .bf16) (x1 : Vec F S1x256 .f32) (x2 : Vec F S1x128 .f32) (xt0 : TbBuf0 (F := F) c tbM0_0) : Vec F S1x2x2048 .f32 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.1)

/-- Case A's pieces for scratch `arg9`, which the kernel carries between points, cover it: 2 pieces of `S128x128` tiling it (Lib/Ring.lean `Piece.tiledL`). -/
theorem scover0_A_0 (hc0 : cond0_0 i) (hc1 : cond0_1 i)
    (x0 : Vec F S1x320x2048 .bf16) (x1 : Vec F S1x256 .f32) (x2 : Vec F S1x128 .f32) (xt0 : TbBuf0 (F := F) c tbM0_0) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1 S128x128.size (by sl_kernel_rfl) y

/-- What case A leaves in scratch `arg9`: its pieces read back over junk. -/
def sout0_A_0 (hc0 : cond0_0 i) (hc1 : cond0_1 i)
    (x0 : Vec F S1x320x2048 .bf16) (x1 : Vec F S1x256 .f32) (x2 : Vec F S1x128 .f32) (xt0 : TbBuf0 (F := F) c tbM0_0) : Vec F S256x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.1)

/-- Case A's pieces for scratch `arg11`, which the kernel carries between points, cover it: 3 pieces of `S32x128` tiling it (Lib/Ring.lean `Piece.tiledL`). -/
theorem scover0_A_2 (hc0 : cond0_0 i) (hc1 : cond0_1 i)
    (x0 : Vec F S1x320x2048 .bf16) (x1 : Vec F S1x256 .f32) (x2 : Vec F S1x128 .f32) (xt0 : TbBuf0 (F := F) c tbM0_0) (y : S96x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1 S32x128.size (by sl_kernel_rfl) y

/-- What case A leaves in scratch `arg11`: its pieces read back over junk. -/
def sout0_A_2 (hc0 : cond0_0 i) (hc1 : cond0_1 i)
    (x0 : Vec F S1x320x2048 .bf16) (x1 : Vec F S1x256 .f32) (x2 : Vec F S1x128 .f32) (xt0 : TbBuf0 (F := F) c tbM0_0) : Vec F S96x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.1)

/-- Case A's pieces for scratch `arg12`, which the kernel carries between points, cover it: 1 piece of `S32x128` tiling it (Lib/Ring.lean `Piece.tiledL`). -/
theorem scover0_A_3 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1 S32x128.size (by sl_kernel_rfl) y

/-- What case A leaves in scratch `arg12`: its pieces read back over junk. -/
def sout0_A_3 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.1)

/-- Case A's pieces for scratch `arg13`, which the kernel carries between points, cover it: 1 piece of `S32x128` tiling it (Lib/Ring.lean `Piece.tiledL`). -/
theorem scover0_A_4 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.1 S32x128.size (by sl_kernel_rfl) y

/-- What case A leaves in scratch `arg13`: its pieces read back over junk. -/
def sout0_A_4 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.1)

/-- Case A's pieces for scratch `arg14`, which the kernel carries between points, cover it: 1 piece of `S32x128` tiling it (Lib/Ring.lean `Piece.tiledL`). -/
theorem scover0_A_5 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.1 S32x128.size (by sl_kernel_rfl) y

/-- What case A leaves in scratch `arg14`: its pieces read back over junk. -/
def sout0_A_5 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_5.read (Elt F) (VS0_5.writes (Elt F) VS0_5.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.1)

/-- Case A's pieces for scratch `arg15`, which the kernel carries between points, cover it: 1 piece of `S32x128` tiling it (Lib/Ring.lean `Piece.tiledL`). -/
theorem scover0_A_6 (hc0 : cond0_0 i) (hc1 : cond0_1 i)
    (x0 : Vec F S1x320x2048 .bf16) (x1 : Vec F S1x256 .f32) (x2 : Vec F S1x128 .f32) (xt0 : TbBuf0 (F := F) c tbM0_0) (y : S32x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.2.1 S32x128.size (by sl_kernel_rfl) y

/-- What case A leaves in scratch `arg15`: its pieces read back over junk. -/
def sout0_A_6 (hc0 : cond0_0 i) (hc1 : cond0_1 i)
    (x0 : Vec F S1x320x2048 .bf16) (x1 : Vec F S1x256 .f32) (x2 : Vec F S1x128 .f32) (xt0 : TbBuf0 (F := F) c tbM0_0) : Vec F S32x128 .f32 :=
  VS0_6.read (Elt F) (VS0_6.writes (Elt F) VS0_6.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0).2.2.2.2.2.2.2.2.1)

/-- Case B's pieces for output 3 tile its block (8 stores of `S1x64x256`, checked by the kernel's evaluation: Lib/Ring.lean `Piece.tiledL`, linear in the pieces, through a loop's `@[irreducible]` trip theorem too), so they cover it. -/
theorem cover0_B_3 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) (y : S1x64x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).1 S1x64x256.size (by sl_kernel_rfl) y

/-- What case B leaves in output 3's staging buffer: its pieces read back over junk. -/
def out0_B_3 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S1x64x2048 .bf16 :=
  VO0_3.read (Elt F) (VO0_3.writes (Elt F) VO0_3.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).1)

/-- Case B's pieces for output 4 tile its block (8 stores of `S1x256x256`, checked by the kernel's evaluation: Lib/Ring.lean `Piece.tiledL`, linear in the pieces, through a loop's `@[irreducible]` trip theorem too), so they cover it. -/
theorem cover0_B_4 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) (y : S1x2048x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.1 S1x256x256.size (by sl_kernel_rfl) y

/-- What case B leaves in output 4's staging buffer: its pieces read back over junk. -/
def out0_B_4 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S1x2048x256 .fp8e4m3 :=
  VO0_4.read (Elt F) (VO0_4.writes (Elt F) VO0_4.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.1)

/-- Case B's pieces for output 5 tile its block (16 stores of `S1x1x256`, checked by the kernel's evaluation: Lib/Ring.lean `Piece.tiledL`, linear in the pieces, through a loop's `@[irreducible]` trip theorem too), so they cover it. -/
theorem cover0_B_5 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) (y : S1x2x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.2.1 S1x1x256.size (by sl_kernel_rfl) y

/-- What case B leaves in output 5's staging buffer: its pieces read back over junk. -/
def out0_B_5 (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S1x2x2048 .f32 :=
  VO0_5.read (Elt F) (VO0_5.writes (Elt F) VO0_5.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6).2.2.1)

/-- Case B stores nothing into scratch `arg9`: it holds what the point before left. -/
def sout0_B_0 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S256x128 .f32 := xs0

/-- Case B stores nothing into scratch `arg11`: it holds what the point before left. -/
def sout0_B_2 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S96x128 .f32 := xs2

/-- Case B stores nothing into scratch `arg12`: it holds what the point before left. -/
def sout0_B_3 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs3

/-- Case B stores nothing into scratch `arg13`: it holds what the point before left. -/
def sout0_B_4 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs4

/-- Case B stores nothing into scratch `arg14`: it holds what the point before left. -/
def sout0_B_5 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs5

/-- Case B stores nothing into scratch `arg15`: it holds what the point before left. -/
def sout0_B_6 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : ¬cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (xs5 : Vec F S32x128 .f32) (xs6 : Vec F S32x128 .f32) : Vec F S32x128 .f32 := xs6

/-- Case C's pieces for output 3 tile its block (8 stores of `S1x64x256`, checked by the kernel's evaluation: Lib/Ring.lean `Piece.tiledL`, linear in the pieces, through a loop's `@[irreducible]` trip theorem too), so they cover it. -/
theorem cover0_C_3 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S1x64x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).1 S1x64x256.size (by sl_kernel_rfl) y

/-- What case C leaves in output 3's staging buffer: its pieces read back over junk. -/
def out0_C_3 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S1x64x2048 .bf16 :=
  VO0_3.read (Elt F) (VO0_3.writes (Elt F) VO0_3.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).1)

/-- Case C's pieces for output 4 tile its block (8 stores of `S1x256x256`, checked by the kernel's evaluation: Lib/Ring.lean `Piece.tiledL`, linear in the pieces, through a loop's `@[irreducible]` trip theorem too), so they cover it. -/
theorem cover0_C_4 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S1x2048x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.1 S1x256x256.size (by sl_kernel_rfl) y

/-- What case C leaves in output 4's staging buffer: its pieces read back over junk. -/
def out0_C_4 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S1x2048x256 .fp8e4m3 :=
  VO0_4.read (Elt F) (VO0_4.writes (Elt F) VO0_4.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.1)

/-- Case C's pieces for output 5 tile its block (16 stores of `S1x1x256`, checked by the kernel's evaluation: Lib/Ring.lean `Piece.tiledL`, linear in the pieces, through a loop's `@[irreducible]` trip theorem too), so they cover it. -/
theorem cover0_C_5 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S1x2x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.1 S1x1x256.size (by sl_kernel_rfl) y

/-- What case C leaves in output 5's staging buffer: its pieces read back over junk. -/
def out0_C_5 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S1x2x2048 .f32 :=
  VO0_5.read (Elt F) (VO0_5.writes (Elt F) VO0_5.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.1)

/-- Case C stores nothing into scratch `arg9`: it holds what the point before left. -/
def sout0_C_0 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S256x128 .f32 := xs0

/-- Case C stores nothing into scratch `arg11`: it holds what the point before left. -/
def sout0_C_2 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S96x128 .f32 := xs2

/-- Case C stores nothing into scratch `arg12`: it holds what the point before left. -/
def sout0_C_3 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 := xs3

/-- Case C stores nothing into scratch `arg13`: it holds what the point before left. -/
def sout0_C_4 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 := xs4

/-- Case C's pieces for scratch `arg14`, which the kernel carries between points, cover it: 1 piece of `S32x128` tiling it (Lib/Ring.lean `Piece.tiledL`). -/
theorem scover0_C_5 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S32x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.1 S32x128.size (by sl_kernel_rfl) y

/-- What case C leaves in scratch `arg14`: its pieces read back over junk. -/
def sout0_C_5 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 :=
  VS0_5.read (Elt F) (VS0_5.writes (Elt F) VS0_5.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.1)

/-- Case C's pieces for scratch `arg15`, which the kernel carries between points, cover it: 1 piece of `S32x128` tiling it (Lib/Ring.lean `Piece.tiledL`). -/
theorem scover0_C_6 (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) (y : S32x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.2.1 S32x128.size (by sl_kernel_rfl) y

/-- What case C leaves in scratch `arg15`: its pieces read back over junk. -/
def sout0_C_6 (c : Dev nD) (i : grid0.Coords) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (hc0 : ¬cond0_0 i) (hc1 : cond0_1 i)
    (x0 : Vec F S1x320x2048 .bf16) (x1 : Vec F S1x256 .f32) (x2 : Vec F S1x128 .f32) (xt0 : TbBuf0 (F := F) c tbM0_0) (xs0 : Vec F S256x128 .f32) (xs2 : Vec F S96x128 .f32) (xs3 : Vec F S32x128 .f32) (xs4 : Vec F S32x128 .f32) : Vec F S32x128 .f32 :=
  VS0_6.read (Elt F) (VS0_6.writes (Elt F) VS0_6.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4).2.2.2.2.2.2.2.2.1)

end Cases

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x64x2048 .bf16 × Vec F S1x2048x256 .fp8e4m3 × Vec F S1x2x2048 .f32 × Vec F S256x128 .f32 × Vec F S96x128 .f32 × Vec F S32x128 .f32 × Vec F S32x128 .f32 × Vec F S32x128 .f32 × Vec F S32x128 .f32
  | 0, hn => (out0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0), sout0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (iblk m hO c 0 ⟨0, hn⟩) (iblk m hO c 1 ⟨0, hn⟩) (iblk m hO c 2 ⟨0, hn⟩) (tbl m 0))
  | n + 1, hn =>
    if h0 : (n + 1) % 40 = 0 then
      if h1 : (n + 1) % 8 = 0 then
        (out0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0), sout0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m hO c 0 ⟨n + 1, hn⟩) (iblk m hO c 1 ⟨n + 1, hn⟩) (iblk m hO c 2 ⟨n + 1, hn⟩) (tbl m 0))
      else
        False.elim (by have hN : n + 1 < 40 := lt_of_lt_of_eq hn (show (cfgM m hO).N = 40 from N_0); omega)
    else
      if h1 : (n + 1) % 8 = 0 then
        (out0_C_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, out0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1, sout0_C_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1)
      else
        (out0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2, sout0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn)).2.2.2.1 (outsAt0 hO c n (Nat.lt_of_succ_lt hn)).2.2.2.2.1 (outsAt0 hO c n (Nat.lt_of_succ_lt hn)).2.2.2.2.2.1 (outsAt0 hO c n (Nat.lt_of_succ_lt hn)).2.2.2.2.2.2.1 (outsAt0 hO c n (Nat.lt_of_succ_lt hn)).2.2.2.2.2.2.2.1 (outsAt0 hO c n (Nat.lt_of_succ_lt hn)).2.2.2.2.2.2.2.2)

/-- `outsAt0` at a point of case A: that case's contents. -/
theorem outsAt0_A (hO : Ok m) (c : Dev nD) (t : Fin (cfgM m hO).N) (h0 : t.val % 40 = 0) (h1 : t.val % 8 = 0) :
    outsAt0 m hO c t.val t.isLt = (out0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0), sout0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0)) := by
  obtain ⟨n, hn⟩ := t
  cases n with
  | zero => exact rfl
  | succ n => exact (dif_pos h0).trans ((dif_pos h1).trans rfl)

/-- `outsAt0` at a point of case B: that case's contents, over what the point before left. -/
theorem outsAt0_B (hO : Ok m) (c : Dev nD) (t : Fin (cfgM m hO).N) (h0 : ¬t.val % 40 = 0) (h1 : ¬t.val % 8 = 0) :
    outsAt0 m hO c t.val t.isLt = (out0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2, sout0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (hO : Ok m) (c : Dev nD) (t : Fin (cfgM m hO).N) (h0 : ¬t.val % 40 = 0) (h1 : t.val % 8 = 0) :
    outsAt0 m hO c t.val t.isLt = (out0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1, sout0_C_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2.1) ∗ (∃ d, owns (c : Thread nD τ) scM0_1 fullShare d) ∗ owns (c : Thread nD τ) scM0_2 fullShare ((outsAt0 m hO c n hn).2.2.2.2.1) ∗ owns (c : Thread nD τ) scM0_3 fullShare ((outsAt0 m hO c n hn).2.2.2.2.2.1) ∗ owns (c : Thread nD τ) scM0_4 fullShare ((outsAt0 m hO c n hn).2.2.2.2.2.2.1) ∗ owns (c : Thread nD τ) scM0_5 fullShare ((outsAt0 m hO c n hn).2.2.2.2.2.2.2.1) ∗ owns (c : Thread nD τ) scM0_6 fullShare ((outsAt0 m hO c n hn).2.2.2.2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.1) ∗ (∃ d, owns (c : Thread nD τ) scM0_1 fullShare d) ∗ owns (c : Thread nD τ) scM0_2 fullShare ((outsAt0 m hO c n hn).2.2.2.2.1) ∗ owns (c : Thread nD τ) scM0_3 fullShare ((outsAt0 m hO c n hn).2.2.2.2.2.1) ∗ owns (c : Thread nD τ) scM0_4 fullShare ((outsAt0 m hO c n hn).2.2.2.2.2.2.1) ∗ owns (c : Thread nD τ) scM0_5 fullShare ((outsAt0 m hO c n hn).2.2.2.2.2.2.2.1) ∗ owns (c : Thread nD τ) scM0_6 fullShare ((outsAt0 m hO c n hn).2.2.2.2.2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.1) ∗ (∃ d, owns (c : Thread nD τ) scM0_1 fullShare d) ∗ owns (c : Thread nD τ) scM0_2 fullShare ((outsAt0 m hO c (n - 1) (by omega)).2.2.2.2.1) ∗ owns (c : Thread nD τ) scM0_3 fullShare ((outsAt0 m hO c (n - 1) (by omega)).2.2.2.2.2.1) ∗ owns (c : Thread nD τ) scM0_4 fullShare ((outsAt0 m hO c (n - 1) (by omega)).2.2.2.2.2.2.1) ∗ owns (c : Thread nD τ) scM0_5 fullShare ((outsAt0 m hO c (n - 1) (by omega)).2.2.2.2.2.2.2.1) ∗ owns (c : Thread nD τ) scM0_6 fullShare ((outsAt0 m hO c (n - 1) (by omega)).2.2.2.2.2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t.val t.isLt).1
    | ⟨4, _⟩ => (outsAt0 m hO c t.val t.isLt).2.1
    | ⟨5, _⟩ => (outsAt0 m hO c t.val t.isLt).2.2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t.val t.isLt).1 := by dsimp only [dats]; try rfl
theorem after0_4 (hO : Ok m) (c : Dev nD) (t : Fin (cfgM m hO).N) : (dats m hO 0 c).after 4 t = (outsAt0 m hO c t.val t.isLt).2.1 := by dsimp only [dats]; try rfl
theorem after0_5 (hO : Ok m) (c : Dev nD) (t : Fin (cfgM m hO).N) : (dats m hO 0 c).after 5 t = (outsAt0 m hO c t.val t.isLt).2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  have hN : t.val < 40 := lt_of_lt_of_eq t.isLt (show (cfgM m hO).N = 40 from N_0)
  by_cases h0 : t.val % 40 = 0
  · by_cases h1 : t.val % 8 = 0
    · by_cases hz : t.val = 0
      · rw [PhiS_castSucc m hO c t, PhiS_zero m hO c _ _ hz, PhiT0_eq, PhiA0_eq]
        rw [outsAt0_A m hO c t h0 h1]
        unfold out0_A_3 out0_A_4 out0_A_5 sout0_A_0 sout0_A_2 sout0_A_3 sout0_A_4 sout0_A_5 sout0_A_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ _ _ _ _ ((hcond0_0 t).mpr h0) ((hcond0_1 t).mpr h1) (iblk m hO c 0 t) (iblk m hO c 1 t) (iblk m hO c 2 t) (tbl m 0)).2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        iintro ⟨H0, H1, H2, ⟨%e3, H3⟩, ⟨%e4, H4⟩, ⟨%e5, H5⟩, ⟨%es0, HS0⟩, HS1, ⟨%es2, HS2⟩, ⟨%es3, HS3⟩, ⟨%es4, HS4⟩, ⟨%es5, HS5⟩, ⟨%es6, HS6⟩, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _ _ _ _ _)
              isplitl [HS5]
              · unfold owns; iexists _; isplitr
                swap; · iexact HS5
                ipureintro; exact View.read_writes_of_cover _ _ _ _ _ (scover0_A_5 c _ _ _ _ _ _ _ _ _ _ _ _ _ _ _ _ _ _ _ _ _ _ _ _ _ _ _ _ _ _ _ _ _)
              unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _)
      · exfalso; have hN : t.val < 40 := lt_of_lt_of_eq t.isLt (show (cfgM m hO).N = 40 from N_0); omega
    · exfalso; omega
  · by_cases h1 : t.val % 8 = 0
    · by_cases hz : t.val = 0
      · exfalso; have hN : t.val < 40 := lt_of_lt_of_eq t.isLt (show (cfgM m hO).N = 40 from N_0); omega
      · rw [PhiS_castSucc m hO c t, PhiS_pos m hO c _ _ hz, PhiT0_eq]
        rw [outsAt0_C m hO c t h0 h1]
        unfold out0_C_3 out0_C_4 out0_C_5 sout0_C_0 sout0_C_2 sout0_C_3 sout0_C_4 sout0_C_5 sout0_C_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (tbl m 0) _ _ _ _).2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexists _; iexact HS5
        isplitl [HS6]; · iexists _; iexact HS6
        isplitl [HT0]; · iexact HT0
        iintro ⟨H0, H1, H2, ⟨%e3, H3⟩, ⟨%e4, H4⟩, ⟨%e5, H5⟩, HS0, HS1, HS2, HS3, HS4, ⟨%es5, HS5⟩, ⟨%es6, HS6⟩, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · unfold owns; iexists _; isplitr
                swap; · iexact HS5
                ipureintro; exact View.read_writes_of_cover _ _ _ _ _ (scover0_C_5 c _ _ _ _ _ _ _ _ _ _ _ _ _ _ _ _ _ _ _ _ _ _ _ _ _ _ _ _ _ _ _ _ _ _ _ _ _)
              unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _ _ _ _)
    · by_cases hz : t.val = 0
      · exfalso; have hN : t.val < 40 := lt_of_lt_of_eq t.isLt (show (cfgM m hO).N = 40 from N_0); omega
      · rw [PhiS_castSucc m hO c t, PhiS_pos m hO c _ _ hz, PhiT0_eq]
        rw [outsAt0_B m hO c t h0 h1]
        unfold out0_B_3 out0_B_4 out0_B_5 sout0_B_0 sout0_B_2 sout0_B_3 sout0_B_4 sout0_B_5 sout0_B_6; (try dsimp only)
        iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (tbl m 0) _ _ _ _ _ _).2.2.2.2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        iintro ⟨H0, H1, H2, ⟨%e3, H3⟩, ⟨%e4, H4⟩, ⟨%e5, H5⟩, HS0, HS1, HS2, HS3, HS4, HS5, HS6, HT0⟩
        isplitl [HS0 HS1 HS2 HS3 HS4 HS5 HS6 Hg HT0]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          iexact HT0
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4, HS5, HS6⟩, Hg⟩, -⟩
  isplitl [HS0 HS1 HS2 HS3 HS4 HS5 HS6]
  · isplitl [HS0]
    · iexists _; iexact HS0
    isplitl [HS1]
    · iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 40 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.Hand

end
-- ==== Proof.Value.Angle.lean ====
module

public import Idealize.ShloMosaic.Lib.Pointwise

/-!
# The rotation of one pair of features, over the extended reals
-/

@[expose] public section

namespace Cert.Val
open Idealize Idealize.ShloMosaic

noncomputable section

/-- The first feature of a pair turned by the angle `a`. -/
def rotEven (k0 k1 : EReal) (a : ℝ) : EReal := k0 * (Real.cos a : ℝ) - k1 * (Real.sin a : ℝ)

/-- The second feature of a pair turned by the angle `a`. -/
def rotOdd (k0 k1 : EReal) (a : ℝ) : EReal := k0 * (Real.sin a : ℝ) + k1 * (Real.cos a : ℝ)

end

/-- The correction for the low part of a frequency is zero: the low part is. -/
theorem corr_zero (n f : ℝ) : ((n : ℝ) : EReal) * (f : ℝ) - ((n : ℝ) : EReal) * (f : ℝ) - ((n : ℝ) : EReal) * (0 : ℝ) = (0 : ℝ) := by
  rw [← EReal.coe_mul, ← EReal.coe_mul, ← EReal.coe_sub, ← EReal.coe_sub]
  congr 1
  ring

/-- The cosine of a sum, from the two tables. -/
theorem cos_tables (a b : ℝ) :
    ((Real.cos a : ℝ) : EReal) * (Real.cos b : ℝ) - ((Real.sin a : ℝ) : EReal) * (Real.sin b : ℝ)
      = ((Real.cos (a + b) : ℝ) : EReal) := by
  rw [Real.cos_add]; norm_cast

/-- The sine of a sum, from the two tables. -/
theorem sin_tables (a b : ℝ) :
    ((Real.sin a : ℝ) : EReal) * (Real.cos b : ℝ) + ((Real.cos a : ℝ) : EReal) * (Real.sin b : ℝ)
      = ((Real.sin (a + b) : ℝ) : EReal) := by
  rw [Real.sin_add]; norm_cast

/-- A correction by zero leaves a cosine alone. -/
theorem corr_sub (c s : ℝ) : (c : EReal) - ((0 : ℝ) : EReal) * (s : ℝ) = (c : EReal) := by
  rw [← EReal.coe_mul, ← EReal.coe_sub]; congr 1; ring

/-- A correction by zero leaves a sine alone. -/
theorem corr_add (c s : ℝ) : (c : EReal) + ((0 : ℝ) : EReal) * (s : ℝ) = (c : EReal) := by
  rw [← EReal.coe_mul, ← EReal.coe_add]; congr 1; ring

end Cert.Val

end
-- ==== Proof.KernelIdeal.Rope.lean ====
module

public import proofs.«01_k».proof.Proof.KernelIdeal.Loops
public import proofs.«01_k».proof.Proof.Value.Angle

/-!
# The rotation's payloads at an index, over the extended reals

`w` is the chunk of 256 tokens the trip loads, the 64 rotated features down and tokens across. The tables hold the
cosines and sines of the angles of the tile starts and of the lanes.
-/

@[expose] public section

namespace Cert.KernelIdeal.Hand
open Idealize Idealize.ShloMosaic Cert.KernelIdeal Cert.KernelIdeal.Gen Cert.Val

set_option maxRecDepth 16384

/-- A column of the tables picked by a word below 128 is that column. -/
theorem gather_col (n : Fin 128) :
    (Scalar.select (IntOp.cmpi CmpIPredicate.slt (BitVec.ofNat 32 n.val) 0#32) (IntOp.addi (BitVec.ofNat 32 n.val) 128#32)
      (BitVec.ofNat 32 n.val)).toNat % 128 = n.val := by
  revert n
  decide +kernel

section
variable (v0 : IVec S32x128 32) (v6 v7 v8 T12 T13 T14 T15 : Vec Ideal S32x128 .f32) (w : Vec Ideal S1x64x256 .bf16)
  (pos : BitVec 32) (fr : Fin 32 → ℝ) (P : ℝ)
  (h6 : ∀ r l, v6 (ix2 r l) = (fr r : ℝ)) (h7 : ∀ r l, v7 (ix2 r l) = (fr r : ℝ)) (h8 : ∀ r l, v8 (ix2 r l) = ((0 : ℝ) : EReal))
  (h12 : ∀ r (l : Fin 128), T12 (ix2 r l) = (Real.cos (((l.val : ℝ) * 128) * fr r) : ℝ))
  (h13 : ∀ r (l : Fin 128), T13 (ix2 r l) = (Real.sin (((l.val : ℝ) * 128) * fr r) : ℝ))
  (h14 : ∀ r (l : Fin 128), T14 (ix2 r l) = (Real.cos (((l.val : ℝ) + P) * fr r) : ℝ))
  (h15 : ∀ r (l : Fin 128), T15 (ix2 r l) = (Real.sin (((l.val : ℝ) + P) * fr r) : ℝ))

/-- The angle of row `r` at the token `n` of the batch row. -/
noncomputable def angOf (fr : Fin 32 → ℝ) (P : ℝ) (r : Fin 32) (n : ℕ) : ℝ := ((n : ℝ) + P) * fr r

theorem angOf_split (r : Fin 32) (m l : ℕ) :
    ((m : ℝ) * 128) * fr r + ((l : ℝ) + P) * fr r = angOf fr P r (128 * m + l) := by
  unfold angOf; push_cast; ring

include h6 h7 h8 in
theorem pay55_at (m : BitVec 32) (r : Fin 32) (l : Fin 128) :
    k0_pay55 (F := Ideal) v0 v6 v7 v8 m pos (ix2 r l) = ((0 : ℝ) : EReal) := by
  pointwise [k0_pay55]
  rw [h6, h7, h8]
  exact corr_zero _ _

section
variable (m : Fin 128) (v188 : IVec S32x128 32) (hm : ∀ i, v188 i = BitVec.ofNat 32 m.val)
include hm

theorem pay51_at (T : Vec Ideal S32x128 .f32) (r : Fin 32) (l : Fin 128) :
    k0_pay51 (F := Ideal) v188 T (ix2 r l) = T (ix2 r m) := by
  pointwise [k0_pay51]
  have e : (Scalar.select (IntOp.cmpi CmpIPredicate.slt (v188 (ix2 r l)) 0#32) (IntOp.addi (v188 (ix2 r l)) 128#32)
      (v188 (ix2 r l))).toNat % 128 = m.val := by rw [hm]; exact gather_col m
  simp only [e]

theorem pay52_at (T : Vec Ideal S32x128 .f32) (r : Fin 32) (l : Fin 128) :
    k0_pay52 (F := Ideal) v188 T (ix2 r l) = T (ix2 r m) := by
  pointwise [k0_pay52]
  have e : (Scalar.select (IntOp.cmpi CmpIPredicate.slt (v188 (ix2 r l)) 0#32) (IntOp.addi (v188 (ix2 r l)) 128#32)
      (v188 (ix2 r l))).toNat % 128 = m.val := by rw [hm]; exact gather_col m
  simp only [e]

include h12 h13 h14 h15 in
theorem pay53_at (r : Fin 32) (l : Fin 128) :
    k0_pay53 (F := Ideal) v188 T12 T13 T14 T15 (ix2 r l) = (Real.cos (angOf fr P r (128 * m.val + l.val)) : ℝ) := by
  pointwise [k0_pay53]
  rw [pay51_at m v188 hm, pay52_at m v188 hm, h12, h13, h14, h15, cos_tables, angOf_split]

include h12 h13 h14 h15 in
theorem pay54_at (r : Fin 32) (l : Fin 128) :
    k0_pay54 (F := Ideal) v188 T12 T13 T14 T15 (ix2 r l) = (Real.sin (angOf fr P r (128 * m.val + l.val)) : ℝ) := by
  pointwise [k0_pay54]
  rw [pay51_at m v188 hm, pay52_at m v188 hm, h12, h13, h14, h15, sin_tables, angOf_split]

include h6 h7 h8 h12 h13 h14 h15 in
theorem pay56_at (v187 : BitVec 32) (r : Fin 32) (l : Fin 128) :
    k0_pay56 (F := Ideal) v0 v6 v7 v8 v187 v188 T12 T13 T14 T15 pos (ix2 r l)
      = (Real.cos (angOf fr P r (128 * m.val + l.val)) : ℝ) := by
  pointwise [k0_pay56]
  rw [pay55_at v0 v6 v7 v8 pos fr h6 h7 h8, pay53_at T12 T13 T14 T15 fr P h12 h13 h14 h15 m v188 hm,
    pay54_at T12 T13 T14 T15 fr P h12 h13 h14 h15 m v188 hm, corr_sub]

include h6 h7 h8 h12 h13 h14 h15 in
theorem pay57_at (v187 : BitVec 32) (r : Fin 32) (l : Fin 128) :
    k0_pay57 (F := Ideal) v0 v6 v7 v8 v187 v188 T12 T13 T14 T15 pos (ix2 r l)
      = (Real.sin (angOf fr P r (128 * m.val + l.val)) : ℝ) := by
  pointwise [k0_pay57]
  rw [pay55_at v0 v6 v7 v8 pos fr h6 h7 h8, pay53_at T12 T13 T14 T15 fr P h12 h13 h14 h15 m v188 hm,
    pay54_at T12 T13 T14 T15 fr P h12 h13 h14 h15 m v188 hm, corr_add]

end

section
variable (m : Fin 128) (a1 a16 : BitVec 32) (hm : k0_pay66 a1 a16 = fun _ => BitVec.ofNat 32 m.val)
include hm

theorem pay67_at (T : Vec Ideal S32x128 .f32) (r : Fin 32) (l : Fin 128) :
    k0_pay67 (F := Ideal) a1 a16 T (ix2 r l) = T (ix2 r m) := by
  pointwise [k0_pay67]
  simp only [hm, gather_col m]

theorem pay68_at (T : Vec Ideal S32x128 .f32) (r : Fin 32) (l : Fin 128) :
    k0_pay68 (F := Ideal) a1 a16 T (ix2 r l) = T (ix2 r m) := by
  pointwise [k0_pay68]
  simp only [hm, gather_col m]

include h12 h13 h14 h15 in
theorem pay69_at (r : Fin 32) (l : Fin 128) :
    k0_pay69 (F := Ideal) a1 a16 T12 T13 T14 T15 (ix2 r l) = (Real.cos (angOf fr P r (128 * m.val + l.val)) : ℝ) := by
  pointwise [k0_pay69]
  rw [pay67_at m a1 a16 hm, pay68_at m a1 a16 hm, h12, h13, h14, h15, cos_tables, angOf_split]

include h12 h13 h14 h15 in
theorem pay70_at (r : Fin 32) (l : Fin 128) :
    k0_pay70 (F := Ideal) a1 a16 T12 T13 T14 T15 (ix2 r l) = (Real.sin (angOf fr P r (128 * m.val + l.val)) : ℝ) := by
  pointwise [k0_pay70]
  rw [pay67_at m a1 a16 hm, pay68_at m a1 a16 hm, h12, h13, h14, h15, sin_tables, angOf_split]
end

/-- The rotated feature of row `r`, of the pair `k0`, `k1`. -/
noncomputable def rotAt (k0 k1 : EReal) (r : Fin 64) (a : ℝ) : EReal :=
  if r.val % 2 = 0 then rotEven k0 k1 a else rotOdd k0 k1 a

theorem pay48_at (r : Fin 32) (l : Fin 128) :
    k0_pay48 (F := Ideal) w (ix2 r l) = w (ix3 0 ⟨2 * r.val, by omega⟩ ⟨l.val, by omega⟩) := by
  pointwise [k0_pay48, k0_pay46, k0_pay45]

theorem pay49_at (r : Fin 32) (l : Fin 128) :
    k0_pay49 (F := Ideal) w (ix2 r l) = w (ix3 0 ⟨2 * r.val + 1, by omega⟩ ⟨l.val, by omega⟩) := by
  pointwise [k0_pay49, k0_pay47, k0_pay45]

theorem pay64_at (r : Fin 32) (l : Fin 128) :
    k0_pay64 (F := Ideal) (k0_pay46 w) (ix2 r l) = w (ix3 0 ⟨2 * r.val, by omega⟩ ⟨128 + l.val, by omega⟩) := by
  pointwise [k0_pay64, k0_pay46, k0_pay45]

theorem pay65_at (r : Fin 32) (l : Fin 128) :
    k0_pay65 (F := Ideal) (k0_pay47 w) (ix2 r l) = w (ix3 0 ⟨2 * r.val + 1, by omega⟩ ⟨128 + l.val, by omega⟩) := by
  pointwise [k0_pay65, k0_pay47, k0_pay45]

include h6 h7 h8 h12 h13 h14 h15 in
/-- What a trip stores of the rotated features. -/
theorem pay17_at (m m' : Fin 128) (hmm : m'.val = m.val + 1) (v187 a1 a16 : BitVec 32) (v188 g : IVec S32x128 32)
    (hm : ∀ i, v188 i = BitVec.ofNat 32 m.val) (hm' : k0_pay66 a1 a16 = fun _ => BitVec.ofNat 32 m'.val)
    (r : Fin 64) (p : Fin 256) :
    k0_pay17 (F := Ideal) v6 v7 v8
        (k0_pay62 (k0_pay60 v0 v6 v7 v8 (k0_pay48 w) v187 v188 T12 T13 T14 T15 pos)
          (k0_pay61 v0 v6 v7 v8 (k0_pay49 w) v187 v188 T12 T13 T14 T15 pos))
        (k0_pay63 (k0_pay56 v0 v6 v7 v8 v187 v188 T12 T13 T14 T15 pos) (k0_pay57 v0 v6 v7 v8 v187 v188 T12 T13 T14 T15 pos)
          (k0_pay58 (k0_pay48 w)) (k0_pay59 (k0_pay49 w)))
        (k0_pay64 (k0_pay46 w)) (k0_pay65 (k0_pay47 w)) (k0_pay69 a1 a16 T12 T13 T14 T15) (k0_pay70 a1 a16 T12 T13 T14 T15) g
        (ix3 0 r p)
      = rotAt (w (ix3 0 ⟨2 * (r.val / 2), by omega⟩ p)) (w (ix3 0 ⟨2 * (r.val / 2) + 1, by omega⟩ p)) r
          (angOf fr P ⟨r.val / 2, by omega⟩ (128 * m.val + p.val)) := by
  have hpe : ∀ h : p.val < 128, (⟨(⟨p.val, h⟩ : Fin 128).val, by omega⟩ : Fin 256) = p := fun _ => rfl
  have hpo : ∀ h : ¬ p.val < 128, (⟨128 + (⟨p.val - 128, by omega⟩ : Fin 128).val, by simp; omega⟩ : Fin 256) = p :=
    fun h => Fin.ext (by simp; omega)
  have hao : ∀ h : ¬ p.val < 128, 128 * m'.val + (⟨p.val - 128, by omega⟩ : Fin 128).val = 128 * m.val + p.val :=
    fun h => by simp; omega
  pointwise [k0_pay17]
  simp only [h6, h7, h8]
  by_cases h : p.val < 128
  · simp only [h, dite_true]
    have A := pay56_at v0 v6 v7 v8 T12 T13 T14 T15 pos fr P h6 h7 h8 h12 h13 h14 h15 m v188 hm v187
      ⟨r.val / 2, by omega⟩ ⟨p.val, h⟩
    have B := pay57_at v0 v6 v7 v8 T12 T13 T14 T15 pos fr P h6 h7 h8 h12 h13 h14 h15 m v188 hm v187
      ⟨r.val / 2, by omega⟩ ⟨p.val, h⟩
    pointwise [k0_pay62, k0_pay63, k0_pay60, k0_pay61, k0_pay58, k0_pay59]
    rw [A, B, pay48_at, pay49_at]
    rfl
  · simp only [h, dite_false]
    have A := pay69_at T12 T13 T14 T15 fr P h12 h13 h14 h15 m' a1 a16 hm' ⟨r.val / 2, by omega⟩ ⟨p.val - 128, by omega⟩
    have B := pay70_at T12 T13 T14 T15 fr P h12 h13 h14 h15 m' a1 a16 hm' ⟨r.val / 2, by omega⟩ ⟨p.val - 128, by omega⟩
    rw [hao h] at A B
    have Z : ∀ (b : BitVec 32) (f : ℝ), (FloatOps.sitofp FTy.f32 b : Ideal .f32) * (f : EReal)
        - (FloatOps.sitofp FTy.f32 b : Ideal .f32) * (f : EReal) - (FloatOps.sitofp FTy.f32 b : Ideal .f32) * ((0 : ℝ) : EReal)
          = ((0 : ℝ) : EReal) := fun b f => corr_zero _ _
    rw [A, B, pay64_at, pay65_at, Z, corr_sub, corr_add, hpo h]
    rfl
end
end Cert.KernelIdeal.Hand

end
-- ==== Proof.KernelIdeal.Tables.lean ====
module

public import proofs.«01_k».proof.Proof.KernelIdeal.Rope

/-!
# The tables the kernel keeps between points, at an index, over the extended reals

At the first point it spreads the gains and the frequencies over the lanes and tabulates the cosine and sine at the tile
starts; at the first block of each batch row it tabulates them at the lanes, from the row's first position on.
-/

@[expose] public section

namespace Cert.KernelIdeal.Hand
open Idealize Idealize.ShloMosaic Cert.KernelIdeal Cert.KernelIdeal.Gen Cert.Val

set_option maxRecDepth 16384

theorem pay18_at (w : Vec Ideal S1x128 .f32) (d l : Fin 128) : k0_pay18 (F := Ideal) w (ix2 d l) = w (ix2 0 d) := by
  pointwise [k0_pay18]

theorem pay19_at (w : Vec Ideal S1x128 .f32) (d l : Fin 128) : k0_pay19 (F := Ideal) w (ix2 d l) = w (ix2 0 d) := by
  pointwise [k0_pay19]

theorem pay21_at (w : Vec Ideal S1x128 .f32) (r : Fin 32) (l : Fin 128) :
    k0_pay21 (F := Ideal) w (ix2 r l) = w (ix2 0 ⟨r.val, by omega⟩) := by
  pointwise [k0_pay21]

theorem pay22_at (w : Vec Ideal S1x128 .f32) (r : Fin 32) (l : Fin 128) :
    k0_pay22 (F := Ideal) w (ix2 r l) = w (ix2 0 ⟨r.val, by omega⟩) := by
  pointwise [k0_pay22]
  exact pay21_at w r l

theorem pay23_at (w : Vec Ideal S1x128 .f32) (r : Fin 32) (l : Fin 128) :
    k0_pay23 (F := Ideal) w (ix2 r l) = w (ix2 0 ⟨r.val, by omega⟩) := by
  pointwise [k0_pay23]
  exact pay21_at w r l

section
variable (f f' : FVec Ideal S32x128 .f32) (fr : Fin 32 → ℝ) (hf : ∀ r l, f (ix2 r l) = (fr r : ℝ)) (hf' : ∀ r l, f' (ix2 r l) = (fr r : ℝ))

include hf' in
theorem pay1_at (r : Fin 32) (l : Fin 128) : k0_pay1 (F := Ideal) f' (ix2 r l) = (fr r : ℝ) := by
  pointwise [k0_pay1]
  exact hf' r l

include hf hf' in
theorem pay2_at (r : Fin 32) (l : Fin 128) : k0_pay2 (F := Ideal) f f' (ix2 r l) = ((0 : ℝ) : EReal) := by
  pointwise [k0_pay2]
  rw [hf, hf', ← EReal.coe_sub, sub_self]

/-- The number of a lane, 128 times over, as a word. -/
theorem lane128 : ∀ l : Fin 128, (IntOp.muli (BitVec.ofNat 32 l.val) 128#32).toInt = (l.val : ℤ) * 128 := by decide +kernel

theorem pay3_at (r : Fin 32) (l : Fin 128) : k0_pay3 (F := Ideal) (ix2 r l) = (((l.val : ℝ) * 128 : ℝ) : EReal) := by
  pointwise [k0_pay3]
  have h := lane128 l
  show (((IntOp.muli (BitVec.ofNat 32 l.val) 128#32).toInt : ℝ) : EReal) = _
  rw [h]; push_cast; rfl

include hf in
theorem pay4_at (r : Fin 32) (l : Fin 128) : k0_pay4 (F := Ideal) f (ix2 r l) = (((l.val : ℝ) * 128 * fr r : ℝ) : EReal) := by
  pointwise [k0_pay4]
  rw [pay3_at, hf, ← EReal.coe_mul]

include hf hf' in
theorem pay5_at (r : Fin 32) (l : Fin 128) : k0_pay5 (F := Ideal) f f' (ix2 r l) = ((0 : ℝ) : EReal) := by
  pointwise [k0_pay5]
  rw [pay3_at, hf, hf', pay4_at f fr hf, ← EReal.coe_mul, ← EReal.coe_sub, ← EReal.coe_sub, ← EReal.coe_mul, ← EReal.coe_add]
  congr 1; ring

include hf in
theorem pay6_at (r : Fin 32) (l : Fin 128) : k0_pay6 (F := Ideal) f (ix2 r l) = (Real.cos ((l.val : ℝ) * 128 * fr r) : ℝ) := by
  pointwise [k0_pay6]
  rw [pay4_at f fr hf]; rfl

include hf in
theorem pay7_at (r : Fin 32) (l : Fin 128) : k0_pay7 (F := Ideal) f (ix2 r l) = (Real.sin ((l.val : ℝ) * 128 * fr r) : ℝ) := by
  pointwise [k0_pay7]
  rw [pay4_at f fr hf]; rfl

include hf hf' in
theorem pay8_at (r : Fin 32) (l : Fin 128) : k0_pay8 (F := Ideal) f f' (ix2 r l) = (Real.cos ((l.val : ℝ) * 128 * fr r) : ℝ) := by
  pointwise [k0_pay8]
  rw [pay5_at f f' fr hf hf', pay6_at f fr hf, pay7_at f fr hf, ← EReal.coe_mul, ← EReal.coe_sub]
  congr 1; ring

include hf hf' in
theorem pay9_at (r : Fin 32) (l : Fin 128) : k0_pay9 (F := Ideal) f f' (ix2 r l) = (Real.sin ((l.val : ℝ) * 128 * fr r) : ℝ) := by
  pointwise [k0_pay9]
  rw [pay5_at f f' fr hf hf', pay6_at f fr hf, pay7_at f fr hf, ← EReal.coe_mul, ← EReal.coe_add]
  congr 1; ring
end

section
variable (v6 v7 v8 : Vec Ideal S32x128 .f32) (fr : Fin 32 → ℝ) (b : BitVec 32) (hb : b.toInt ≤ 2 ^ 31 - 1 - 16383)
  (h6 : ∀ r l, v6 (ix2 r l) = (fr r : ℝ)) (h7 : ∀ r l, v7 (ix2 r l) = (fr r : ℝ)) (h8 : ∀ r l, v8 (ix2 r l) = ((0 : ℝ) : EReal))

include hb in
/-- A lane's number plus a row's first position, as a word, does not wrap. -/
theorem lane_pos (n : ℕ) (hn : n ≤ 16383) : (BitVec.ofNat 32 n + b).toInt = (n : ℤ) + b.toInt := by
  have h0 := b.toInt_lt
  have h1 := b.le_toInt
  have hn' : (BitVec.ofNat 32 n).toInt = (n : ℤ) := by
    rw [BitVec.toInt_eq_toNat_cond, BitVec.toNat_ofNat]; omega
  rw [BitVec.toInt_add, hn', Int.bmod_def]
  omega

include hb in
theorem pay10_at (r : Fin 32) (l : Fin 128) : k0_pay10 (F := Ideal) b (ix2 r l) = (((l.val : ℝ) + (b.toInt : ℝ) : ℝ) : EReal) := by
  pointwise [k0_pay10]
  have h := lane_pos b hb l.val (by omega)
  show (((BitVec.ofNat 32 l.val + b).toInt : ℝ) : EReal) = _
  rw [h]; push_cast; rfl

include hb h6 in
theorem pay11_at (r : Fin 32) (l : Fin 128) :
    k0_pay11 (F := Ideal) v6 b (ix2 r l) = ((((l.val : ℝ) + (b.toInt : ℝ)) * fr r : ℝ) : EReal) := by
  pointwise [k0_pay11]
  rw [pay10_at b hb, h6, ← EReal.coe_mul]

include hb h6 h7 h8 in
theorem pay12_at (r : Fin 32) (l : Fin 128) : k0_pay12 (F := Ideal) v6 v7 v8 b (ix2 r l) = ((0 : ℝ) : EReal) := by
  pointwise [k0_pay12]
  rw [pay10_at b hb, h7, h8, pay11_at v6 fr b hb h6, ← EReal.coe_mul, ← EReal.coe_sub, ← EReal.coe_mul, ← EReal.coe_add]
  congr 1; ring

include hb h6 in
theorem pay13_at (r : Fin 32) (l : Fin 128) :
    k0_pay13 (F := Ideal) v6 b (ix2 r l) = (Real.cos (((l.val : ℝ) + (b.toInt : ℝ)) * fr r) : ℝ) := by
  pointwise [k0_pay13]
  rw [pay11_at v6 fr b hb h6]; rfl

include hb h6 in
theorem pay14_at (r : Fin 32) (l : Fin 128) :
    k0_pay14 (F := Ideal) v6 b (ix2 r l) = (Real.sin (((l.val : ℝ) + (b.toInt : ℝ)) * fr r) : ℝ) := by
  pointwise [k0_pay14]
  rw [pay11_at v6 fr b hb h6]; rfl

include hb h6 h7 h8 in
theorem pay15_at (r : Fin 32) (l : Fin 128) :
    k0_pay15 (F := Ideal) v6 v7 v8 b (ix2 r l) = (Real.cos (((l.val : ℝ) + (b.toInt : ℝ)) * fr r) : ℝ) := by
  pointwise [k0_pay15]
  rw [pay12_at v6 v7 v8 fr b hb h6 h7 h8, pay13_at v6 fr b hb h6, pay14_at v6 fr b hb h6, ← EReal.coe_mul, ← EReal.coe_sub]
  congr 1; ring

include hb h6 h7 h8 in
theorem pay16_at (r : Fin 32) (l : Fin 128) :
    k0_pay16 (F := Ideal) v6 v7 v8 b (ix2 r l) = (Real.sin (((l.val : ℝ) + (b.toInt : ℝ)) * fr r) : ℝ) := by
  pointwise [k0_pay16]
  rw [pay12_at v6 v7 v8 fr b hb h6 h7 h8, pay13_at v6 fr b hb h6, pay14_at v6 fr b hb h6, ← EReal.coe_mul, ← EReal.coe_add]
  congr 1; ring
end
end Cert.KernelIdeal.Hand

end
-- ==== Proof.Value.Scalar.lean ====
module

public import Idealize.ShloMosaic.Lib.Pointwise

/-!
# What the kernel computes for one token, as plain functions of extended reals

The quantiser of one token: the reciprocal root mean square of its 256 features, the scaled features, the largest
magnitude of a group of 128, the exponent of the group's step found by an eight step search over the exponent field,
the scale and its inverse, and the clipped code.
-/

@[expose] public section

namespace Cert.Val
open Idealize Idealize.ShloMosaic

noncomputable section

/-- The reciprocal root mean square of a token's features. -/
def rsOf (col : Fin 256 → EReal) : EReal :=
  Ideal.rsqrt ((∑ x, col x * col x) * Ideal.ofBits .f32 998244352#32 + Ideal.ofBits .f32 897988541#32)

/-- A token's feature, normalised and multiplied by its gain. -/
def yOf (col gm : Fin 256 → EReal) (d : Fin 256) : EReal := col d * rsOf col * gm d

/-- Feature `d` of group `g` among the 256. -/
def feat (g : Fin 2) (d : Fin 128) : Fin 256 := ⟨128 * g.val + d.val, by omega⟩

/-- The largest magnitude of a group. -/
def aOf (y : Fin 256 → EReal) (g : Fin 2) : EReal :=
  Finset.fold max (Ideal.ofBits .f32 4286578688#32)
    (fun x => FloatOps.absf (F := Ideal) (φ := .f32) (y (feat g x))) Finset.univ

/-- The step that takes a group's largest magnitude to 448. -/
def vOf (a : EReal) : EReal := FloatOps.mulf (F := Ideal) (φ := .f32) a (FloatOps.ofBits .f32 0x3B124925#32)

/-- One step of the exponent search: raise the field by `k` unless the number it then stands for exceeds `v`. -/
def step (v : EReal) (e k : BitVec 32) : BitVec 32 :=
  Scalar.select (FloatOps.cmpf (F := Ideal) (φ := .f32) .olt v (FloatOps.ofBits .f32 (IntOp.addi e k))) e (IntOp.addi e k)

/-- The exponent field of `v`, found in eight steps. -/
def expField (v : EReal) : BitVec 32 :=
  step v (step v (step v (step v (step v (step v (step v (step v 0#32 1073741824#32) 536870912#32) 268435456#32)
    134217728#32) 67108864#32) 33554432#32) 16777216#32) 8388608#32

/-- The bits of the scale. -/
def sbOf (a v : EReal) : BitVec 32 :=
  Scalar.select (FloatOps.cmpf (F := Ideal) (φ := .f32) .oeq a (FloatOps.ofBits .f32 0x00000000#32)) 1065353216#32
    (IntOp.addi (expField v) 8388608#32)

/-- The scale of a group whose largest magnitude is `a`. -/
def scaleOf (a : EReal) : EReal := Ideal.ofBits .f32 (sbOf a (vOf a))

/-- The inverse of the scale of a group whose largest magnitude is `a`. -/
def invOf (a : EReal) : EReal := Ideal.ofBits .f32 (IntOp.subi 2130706432#32 (sbOf a (vOf a)))

/-- The code of a feature: scaled by the inverse scale and clipped to the range of the format. -/
def codeOf (y inv : EReal) : EReal :=
  min (Ideal.ofBits .f32 0x43E00000#32) (max (Ideal.ofBits .f32 0xC3E00000#32) (y * inv))

end

end Cert.Val

end
-- ==== Proof.KernelIdeal.Quant.lean ====
module

public import proofs.«01_k».proof.Proof.KernelIdeal.Loops
public import proofs.«01_k».proof.Proof.Value.Scalar

/-!
# The quantiser's payloads at an index, over the extended reals

`x` is the chunk of 256 tokens the trip loads, features down and tokens across; `g0` and `g1` are the two halves of the
gains, one gain per row.
-/

@[expose] public section

namespace Cert.KernelIdeal.Hand
open Idealize Idealize.ShloMosaic Cert.KernelIdeal Cert.KernelIdeal.Gen Cert.Val

set_option maxRecDepth 16384

/-- One step of the exponent search on vectors is `step` at each index. -/
theorem sel_step {s : Shape} (v : FVec Ideal s .f32) (e : IVec s 32) (K : BitVec 32) :
    select (cmpf .olt v (bitcastToFloat .f32 (addi e (broadcast s K)))) e (addi e (broadcast s K))
      = fun i => step (v i) (e i) K := rfl

section
variable (x : Vec Ideal S1x256x256 .bf16) (gm : Fin 256 → EReal)

/-- A token's features. -/
noncomputable def colOf (x : Vec Ideal S1x256x256 .bf16) (p : Fin 256) : Fin 256 → EReal := fun d => x (ix3 0 d p)

theorem pay24_at (d p : Fin 256) : k0_pay24 (F := Ideal) x (ix2 d p) = colOf x p d := by
  pointwise [k0_pay24]
  rfl

theorem pay25_at (p : Fin 256) : k0_pay25 (F := Ideal) x (ix2 0 p) = rsOf (colOf x p) := by
  pointwise [k0_pay25, k0_pay24]
  rfl

section
variable (g : Vec Ideal S128x128 .f32) (hg : ∀ d l : Fin 128, g (ix2 d l) = gm (feat 0 d))
include hg

theorem pay26_at (d : Fin 128) (p : Fin 256) : k0_pay26 (F := Ideal) x g (ix2 d p) = yOf (colOf x p) gm (feat 0 d) := by
  pointwise [k0_pay26]
  rw [pay25_at, pay24_at]
  simp only [hg, dite_eq_ite, ite_self]
  have e : (⟨d.val, by omega⟩ : Fin 256) = feat 0 d := Fin.ext (by simp [feat])
  rw [e]
  rfl

theorem pay27_at (p : Fin 256) : k0_pay27 (F := Ideal) x g (ix2 0 p) = aOf (yOf (colOf x p) gm) 0 := by
  pointwise [k0_pay27]
  simp only [pay26_at x gm g hg]
  rfl

omit hg in
theorem pay29_eq :
    k0_pay29 (F := Ideal) x g = fun i => step (k0_pay28 (F := Ideal) x g i) (step (k0_pay28 (F := Ideal) x g i)
      (step (k0_pay28 (F := Ideal) x g i) 0#32 1073741824#32) 536870912#32) 268435456#32 := by
  unfold k0_pay29
  dsimp only
  rw [sel_step, sel_step, sel_step]
  rfl

omit hg in
theorem pay32_eq (i) :
    k0_pay32 (F := Ideal) (k0_pay27 x g) (k0_pay28 x g) (k0_pay29 x g) (k0_pay30 x g) (k0_pay31 x g) i
      = sbOf (k0_pay27 (F := Ideal) x g i) (vOf (k0_pay27 (F := Ideal) x g i)) := by
  unfold k0_pay31 k0_pay30 k0_pay32
  dsimp only
  rw [sel_step, sel_step, sel_step, sel_step, sel_step, pay29_eq]
  rfl

/-- The scale of the first group. -/
theorem pay33_at (p : Fin 256) :
    k0_pay33 (F := Ideal) (k0_pay27 x g) (k0_pay28 x g) (k0_pay29 x g) (k0_pay30 x g) (k0_pay31 x g) (ix3 0 0 p)
      = scaleOf (aOf (yOf (colOf x p) gm) 0) := by
  pointwise [k0_pay33]
  rw [pay32_eq, pay27_at x gm g hg]
  rfl

/-- The codes of the first group. -/
theorem pay34_at (d : Fin 128) (p : Fin 256) :
    k0_pay34 (F := Ideal) (k0_pay26 x g) (k0_pay27 x g) (k0_pay28 x g) (k0_pay29 x g) (k0_pay30 x g) (k0_pay31 x g) (ix2 d p)
      = codeOf (yOf (colOf x p) gm (feat 0 d)) (invOf (aOf (yOf (colOf x p) gm) 0)) := by
  pointwise [k0_pay34]
  rw [pay32_eq, pay27_at x gm g hg, pay26_at x gm g hg]
  rfl
end

section
variable (g : Vec Ideal S128x128 .f32) (hg : ∀ d l : Fin 128, g (ix2 d l) = gm (feat 1 d))
include hg

theorem pay36_at (d : Fin 128) (p : Fin 256) :
    k0_pay36 (F := Ideal) (k0_pay24 x) (k0_pay25 x) (k0_pay35 g) (ix2 d p) = yOf (colOf x p) gm (feat 1 d) := by
  pointwise [k0_pay36, k0_pay35]
  rw [pay25_at, pay24_at]
  simp only [hg, dite_eq_ite, ite_self]
  rfl

theorem pay37_at (p : Fin 256) :
    k0_pay37 (F := Ideal) (k0_pay24 x) (k0_pay25 x) (k0_pay35 g) (ix2 0 p) = aOf (yOf (colOf x p) gm) 1 := by
  pointwise [k0_pay37]
  simp only [pay36_at x gm g hg]
  rfl

omit hg in
theorem pay42_eq (v r q) (i) :
    k0_pay42 (F := Ideal) (k0_pay37 v r q) (k0_pay39 v r q) (k0_pay40 v r q) (k0_pay41 v r q) i
      = sbOf (k0_pay37 (F := Ideal) v r q i) (vOf (k0_pay37 (F := Ideal) v r q i)) := by
  unfold k0_pay41 k0_pay40 k0_pay42 k0_pay39
  dsimp only
  rw [sel_step, sel_step, sel_step, sel_step, sel_step, sel_step, sel_step, sel_step]
  rfl

/-- The scale of the second group. -/
theorem pay43_at (p : Fin 256) :
    k0_pay43 (F := Ideal) (k0_pay37 (k0_pay24 x) (k0_pay25 x) (k0_pay35 g)) (k0_pay39 (k0_pay24 x) (k0_pay25 x) (k0_pay35 g))
        (k0_pay40 (k0_pay24 x) (k0_pay25 x) (k0_pay35 g)) (k0_pay41 (k0_pay24 x) (k0_pay25 x) (k0_pay35 g)) (ix3 0 0 p)
      = scaleOf (aOf (yOf (colOf x p) gm) 1) := by
  pointwise [k0_pay43]
  rw [pay42_eq, pay37_at x gm g hg]
  rfl

/-- The codes of both groups, given those of the first. -/
theorem pay44_at (q : FVec Ideal S128x256 .fp8e4m3)
    (hq : ∀ (d : Fin 128) (p : Fin 256), q (ix2 d p)
      = codeOf (yOf (colOf x p) gm (feat 0 d)) (invOf (aOf (yOf (colOf x p) gm) 0)))
    (p d : Fin 256) :
    k0_pay44 (F := Ideal) q (k0_pay36 (k0_pay24 x) (k0_pay25 x) (k0_pay35 g))
        (k0_pay37 (k0_pay24 x) (k0_pay25 x) (k0_pay35 g)) (k0_pay39 (k0_pay24 x) (k0_pay25 x) (k0_pay35 g))
        (k0_pay40 (k0_pay24 x) (k0_pay25 x) (k0_pay35 g)) (k0_pay41 (k0_pay24 x) (k0_pay25 x) (k0_pay35 g)) (ix3 0 p d)
      = codeOf (yOf (colOf x p) gm d) (invOf (aOf (yOf (colOf x p) gm) ⟨d.val / 128, by omega⟩)) := by
  pointwise [k0_pay44]
  rw [pay42_eq, pay37_at x gm g hg]
  split_ifs with h
  · rw [hq]
    have e1 : feat 0 ⟨d.val, h⟩ = d := Fin.ext (by simp [feat])
    have e2 : (⟨d.val / 128, by omega⟩ : Fin 2) = 0 := Fin.ext (by simp; omega)
    rw [e1, e2]
  · rw [pay36_at x gm g hg]
    have e1 : feat 1 ⟨d.val - 128, by omega⟩ = d := Fin.ext (by simp [feat]; omega)
    have e2 : (⟨d.val / 128, by omega⟩ : Fin 2) = 1 := Fin.ext (by simp; omega)
    rw [e1, e2]
    rfl
  · rename_i h'
    exact absurd rfl h'
end
end
end Cert.KernelIdeal.Hand

end
-- ==== Proof.KernelIdeal.Trip.lean ====
module

public import proofs.«01_k».proof.Proof.KernelIdeal.Quant
public import proofs.«01_k».proof.Proof.KernelIdeal.Rope

/-!
# What the trips of the loop over a block's chunks store, over the extended reals

The block is 2048 tokens of one batch row. Each trip stores 256 tokens of the rotated features, of the codes and of the
scales. All trips' pieces agree with one function of the block's place: `ropeB`, `codeB`, `scaleB`.
-/

@[expose] public section

namespace Cert.KernelIdeal.Hand
open Idealize Idealize.ShloMosaic Idealize.ShloMosaic.TcCoe Cert.KernelIdeal Cert.KernelIdeal.Gen Cert.Val

set_option maxRecDepth 16384

noncomputable section

/-- The first 256 features of a token of the block. -/
def blkCol (x0 : Vec Ideal S1x320x2048 .bf16) (n : Fin 2048) : Fin 256 → EReal := fun d => x0 (ix3 0 ⟨d.val, by omega⟩ n)

/-- The block's scales. -/
def scaleB (x0 : Vec Ideal S1x320x2048 .bf16) (gm : Fin 256 → EReal) (y : S1x2x2048.Idx) : EReal :=
  scaleOf (aOf (yOf (blkCol x0 (y 2)) gm) (y 1))

/-- The group of a feature. -/
def grpOf (d : Fin 256) : Fin 2 := ⟨d.val / 128, by omega⟩

/-- The block's codes. -/
def codeB (x0 : Vec Ideal S1x320x2048 .bf16) (gm : Fin 256 → EReal) (y : S1x2048x256.Idx) : EReal :=
  codeOf (yOf (blkCol x0 (y 1)) gm (y 2))
    (invOf (aOf (yOf (blkCol x0 (y 1)) gm) (grpOf (y 2))))

/-- The block's rotated features, the block the `t`-th of its batch row. -/
def ropeB (x0 : Vec Ideal S1x320x2048 .bf16) (fr : Fin 32 → ℝ) (P : ℝ) (t : ℕ) (y : S1x64x2048.Idx) : EReal :=
  rotAt (x0 (ix3 0 ⟨256 + 2 * ((y 1).val / 2), by have : (y 1).val < 64 := (y 1).isLt; omega⟩ (y 2)))
    (x0 (ix3 0 ⟨256 + 2 * ((y 1).val / 2) + 1, by have : (y 1).val < 64 := (y 1).isLt; omega⟩ (y 2))) (y 1)
    (angOf fr P ⟨(y 1).val / 2, by have : (y 1).val < 64 := (y 1).isLt; omega⟩ (2048 * t + (y 2).val))

end

/-- A load through a rectangle of unit strides, at an index given by its coordinates. -/
theorem readAt_coords {sig : RefSig} {κ : Kind} {sp : Space} {s : Shape} {e : EltTy} {Val : EltTy → Type}
    (v : View sig κ sp s e) (f : v.ty.Contents Val) (r : Rect s) (x : r.shape.Idx) (y : s.Idx)
    (h : ∀ a, (y a).val = r.off a + r.stride a * (x a).val) :
    View.readAt Val v r.toLoadRect f x = View.read Val v f y :=
  congrArg (View.read Val v f) (Rect.emb_eq_of_coords r x y h)

section
variable (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec Ideal S32x128 .f32) (v7 : Vec Ideal S32x128 .f32) (v8 : Vec Ideal S32x128 .f32) (X_arg2 : BufTy.Contents (Elt Ideal) arg2.view.ty) (X_arg3 : BufTy.Contents (Elt Ideal) arg3.view.ty) (X_arg9 : BufTy.Contents (Elt Ideal) arg9.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)

section quant
variable (x0 : Vec Ideal S1x320x2048 .bf16) (gm : Fin 256 → EReal)
  (E3 : arg3.view.read (Elt Ideal) X_arg3 = x0)
  (E9 : ∀ (d : Fin 256) (l : Fin 128), arg9.view.read (Elt Ideal) X_arg9 (ix2 d l) = gm d)

include E3 in
theorem col_eq (k : Fin k0_t1_loop.trips) (p : Fin 256) (n : Fin 2048) (hn : n.val = 256 * k.val + p.val) (h) :
    colOf (View.readAt (Elt Ideal) arg3.view (Rect.unit (s := S1x320x2048) (k0_off2 k) S1x256x256.size h).toLoadRect X_arg3) p = blkCol x0 n := by
  funext d
  unfold colOf blkCol
  rw [← E3]
  refine readAt_coords arg3.view X_arg3 (Rect.unit (s := S1x320x2048) (k0_off2 k) S1x256x256.size h) _ _ fun a => ?_
  refine Eq.trans ?_ (congrArg (fun o => o + 1 * ((ix3 0 d p : S1x256x256.Idx) a).val) (congrFun (k0_off2_eq k) a).symm)
  fin_cases a
  · rfl
  · show d.val = 0 + 1 * d.val
    omega
  · show n.val = 256 * k.val + 1 * p.val
    omega

include E9 in
theorem gain_lo (d l : Fin 128) (h) :
    View.readAt (Elt Ideal) arg9.view (Rect.unit (s := S256x128) ![0, 0] S128x128.size h).toLoadRect X_arg9 (ix2 d l) = gm (feat 0 d) := by
  rw [← E9 (feat 0 d) l]
  refine readAt_coords arg9.view X_arg9 (Rect.unit (s := S256x128) ![0, 0] S128x128.size h) _ _ fun a => ?_
  fin_cases a
  · show 128 * 0 + d.val = 0 + 1 * d.val
    omega
  · show l.val = 0 + 1 * l.val
    omega

include E9 in
theorem gain_hi (d l : Fin 128) (h) :
    View.readAt (Elt Ideal) arg9.view (Rect.unit (s := S256x128) ![128, 0] S128x128.size h).toLoadRect X_arg9 (ix2 d l) = gm (feat 1 d) := by
  rw [← E9 (feat 1 d) l]
  refine readAt_coords arg9.view X_arg9 (Rect.unit (s := S256x128) ![128, 0] S128x128.size h) _ _ fun a => ?_
  fin_cases a
  · show 128 * 1 + d.val = 128 + 1 * d.val
    omega
  · show l.val = 0 + 1 * l.val
    omega

include E3 E9 in
/-- The trip's scales. -/
theorem trip_scale (k : Fin k0_t1_loop.trips) :
    ∀ pc ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.2, ∀ x : pc.1.shape.Idx, pc.2 x = scaleB x0 gm (pc.1.emb x) := by
  unfold tripL_k0_t1 trip_k0_t1
  dsimp only
  intro pc hpc
  simp only [List.mem_cons, List.not_mem_nil, or_false] at hpc
  rcases hpc with rfl | rfl
  · intro x
    obtain ⟨p, hp⟩ : ∃ p : Fin 256, x = (ix3 0 0 p : S1x1x256.Idx) := ⟨x 2, by
      funext a; fin_cases a
      · exact Subsingleton.elim (α := Fin 1) _ _
      · exact Subsingleton.elim (α := Fin 1) _ _
      · rfl⟩
    subst hp
    have hc : ((Rect.unit (s := S1x2x2048) (k0_off4 k) S1x1x256.size (k0_off4_inb k)).emb (ix3 0 0 p : S1x1x256.Idx)) 1 = (1 : Fin 2) := by
      apply Fin.ext
      show (k0_off4 k) 1 + 1 * 0 = 1
      rw [k0_off4_eq]; rfl
    have hn : (((Rect.unit (s := S1x2x2048) (k0_off4 k) S1x1x256.size (k0_off4_inb k)).emb (ix3 0 0 p : S1x1x256.Idx)) 2).val
        = 256 * k.val + p.val := by
      show (k0_off4 k) 2 + 1 * p.val = _
      rw [k0_off4_eq]
      show 256 * k.val + 1 * p.val = _
      omega
    refine (pay43_at _ gm _ (gain_hi _ _ gm E9 · · _) p).trans ?_
    rw [col_eq _ _ x0 E3 k p _ hn]
    exact congrArg (fun g => scaleOf (aOf _ g)) hc.symm
  · intro x
    obtain ⟨p, hp⟩ : ∃ p : Fin 256, x = (ix3 0 0 p : S1x1x256.Idx) := ⟨x 2, by
      funext a; fin_cases a
      · exact Subsingleton.elim (α := Fin 1) _ _
      · exact Subsingleton.elim (α := Fin 1) _ _
      · rfl⟩
    subst hp
    have hc : ((Rect.unit (s := S1x2x2048) (k0_off3 k) S1x1x256.size (k0_off3_inb k)).emb (ix3 0 0 p : S1x1x256.Idx)) 1 = (0 : Fin 2) := by
      apply Fin.ext
      show (k0_off3 k) 1 + 1 * 0 = 0
      rw [k0_off3_eq]; rfl
    have hn : (((Rect.unit (s := S1x2x2048) (k0_off3 k) S1x1x256.size (k0_off3_inb k)).emb (ix3 0 0 p : S1x1x256.Idx)) 2).val
        = 256 * k.val + p.val := by
      show (k0_off3 k) 2 + 1 * p.val = _
      rw [k0_off3_eq]
      show 256 * k.val + 1 * p.val = _
      omega
    refine (pay33_at _ gm _ (gain_lo _ _ gm E9 · · _) p).trans ?_
    rw [col_eq _ _ x0 E3 k p _ hn]
    exact congrArg (fun g => scaleOf (aOf _ g)) hc.symm

include E3 E9 in
/-- The trip's codes. -/
theorem trip_code (k : Fin k0_t1_loop.trips) :
    ∀ pc ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).2.1, ∀ x : pc.1.shape.Idx, pc.2 x = codeB x0 gm (pc.1.emb x) := by
  unfold tripL_k0_t1 trip_k0_t1
  dsimp only
  intro pc hpc
  simp only [List.mem_cons, List.not_mem_nil, or_false] at hpc
  subst hpc
  intro x
  obtain ⟨p, d, hp⟩ : ∃ p d : Fin 256, x = (ix3 0 p d : S1x256x256.Idx) := ⟨x 1, x 2, by
    funext a; fin_cases a
    · exact Subsingleton.elim (α := Fin 1) _ _
    · rfl
    · rfl⟩
  subst hp
  have hc : ((Rect.unit (s := S1x2048x256) (k0_off5 k) S1x256x256.size (k0_off5_inb k)).emb (ix3 0 p d : S1x256x256.Idx)) 2 = d := by
    apply Fin.ext
    show (k0_off5 k) 2 + 1 * d.val = d.val
    rw [k0_off5_eq]
    show 0 + 1 * d.val = d.val
    omega
  have hn : (((Rect.unit (s := S1x2048x256) (k0_off5 k) S1x256x256.size (k0_off5_inb k)).emb (ix3 0 p d : S1x256x256.Idx)) 1).val
      = 256 * k.val + p.val := by
    show (k0_off5 k) 1 + 1 * p.val = _
    rw [k0_off5_eq]
    show 256 * k.val + 1 * p.val = _
    omega
  refine (pay44_at _ gm _ (gain_hi _ _ gm E9 · · _) _ (fun d p => pay34_at _ gm _ (gain_lo _ _ gm E9 · · _) d p) p d).trans ?_
  rw [col_eq _ _ x0 E3 k p _ hn]
  exact congrArg (fun d => codeOf (yOf (blkCol x0 _) gm d) (invOf (aOf (yOf (blkCol x0 _) gm) (grpOf d)))) hc.symm
end quant

section rope
variable (x0 : Vec Ideal S1x320x2048 .bf16) (fr : Fin 32 → ℝ) (P : ℝ) (t : Fin 8)
  (E3 : arg3.view.read (Elt Ideal) X_arg3 = x0) (E1 : arg1 = BitVec.ofNat 32 t.val)
  (h6 : ∀ r l, v6 (ix2 r l) = (fr r : ℝ)) (h7 : ∀ r l, v7 (ix2 r l) = (fr r : ℝ)) (h8 : ∀ r l, v8 (ix2 r l) = ((0 : ℝ) : EReal))
  (h12 : ∀ r (l : Fin 128), arg12.view.read (Elt Ideal) X_arg12 (ix2 r l) = (Real.cos (((l.val : ℝ) * 128) * fr r) : ℝ))
  (h13 : ∀ r (l : Fin 128), arg13.view.read (Elt Ideal) X_arg13 (ix2 r l) = (Real.sin (((l.val : ℝ) * 128) * fr r) : ℝ))
  (h14 : ∀ r (l : Fin 128), arg14.view.read (Elt Ideal) X_arg14 (ix2 r l) = (Real.cos (((l.val : ℝ) + P) * fr r) : ℝ))
  (h15 : ∀ r (l : Fin 128), arg15.view.read (Elt Ideal) X_arg15 (ix2 r l) = (Real.sin (((l.val : ℝ) + P) * fr r) : ℝ))

/-- The number of the chunk's first tile of 128 tokens within the batch row. -/
def tile (t : Fin 8) (k : Fin k0_t1_loop.trips) : Fin 128 :=
  ⟨16 * t.val + 2 * k.val, by have : k.val < 8 := k.isLt; omega⟩

/-- The number of the chunk's second tile. -/
def tile' (t : Fin 8) (k : Fin k0_t1_loop.trips) : Fin 128 :=
  ⟨16 * t.val + 2 * k.val + 1, by have : k.val < 8 := k.isLt; omega⟩

theorem tile_word : ∀ (t : Fin 8) (k : Fin k0_t1_loop.trips),
    Scalar.addi (Scalar.addi (Scalar.muli (BitVec.ofNat 32 t.val) 16#32) (Scalar.muli (Scf.iv 0#32 1#32 k) 2#32)) 0#32
      = BitVec.ofNat 32 (tile t k).val := by decide +kernel

theorem tile_word' : ∀ (t : Fin 8) (k : Fin k0_t1_loop.trips),
    Scalar.addi (Scalar.addi (Scalar.muli (BitVec.ofNat 32 t.val) 16#32) (Scalar.muli (Scf.iv 0#32 1#32 k) 2#32)) 1#32
      = BitVec.ofNat 32 (tile' t k).val := by decide +kernel

/-- A load of a whole table. -/
theorem table_at {sig : RefSig} {κ : Kind} {sp : Space} (v : View sig κ sp S32x128 .f32) (f : v.ty.Contents (Elt Ideal))
    (r : Fin 32) (l : Fin 128) (h) :
    View.readAt (Elt Ideal) v (Rect.unit (s := S32x128) ![0, 0] S32x128.size h).toLoadRect f (ix2 r l) = View.read (Elt Ideal) v f (ix2 r l) := by
  refine readAt_coords v f (Rect.unit (s := S32x128) ![0, 0] S32x128.size h) _ _ fun a => ?_
  fin_cases a
  · show r.val = 0 + 1 * r.val
    omega
  · show l.val = 0 + 1 * l.val
    omega

include E3 in
theorem pair_eq (k : Fin k0_t1_loop.trips) (p : Fin 256) (n : Fin 2048) (hn : n.val = 256 * k.val + p.val) (h) (r : Fin 64) :
    View.readAt (Elt Ideal) arg3.view (Rect.unit (s := S1x320x2048) (k0_off6 k) S1x64x256.size h).toLoadRect X_arg3 (ix3 0 r p)
      = x0 (ix3 0 ⟨256 + r.val, by omega⟩ n) := by
  rw [← E3]
  refine readAt_coords arg3.view X_arg3 (Rect.unit (s := S1x320x2048) (k0_off6 k) S1x64x256.size h) _ _ fun a => ?_
  refine Eq.trans ?_ (congrArg (fun o => o + 1 * ((ix3 0 r p : S1x64x256.Idx) a).val) (congrFun (k0_off6_eq k) a).symm)
  fin_cases a
  · rfl
  · show 256 + r.val = 256 + 1 * r.val
    omega
  · show n.val = 256 * k.val + 1 * p.val
    omega

include E3 E1 h6 h7 h8 h12 h13 h14 h15 in
/-- The trip's rotated features. -/
theorem trip_rope (k : Fin k0_t1_loop.trips) :
    ∀ pc ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 k).1, ∀ x : pc.1.shape.Idx, pc.2 x = ropeB x0 fr P t.val (pc.1.emb x) := by
  subst E1
  unfold tripL_k0_t1 trip_k0_t1
  dsimp only
  intro pc hpc
  simp only [List.mem_cons, List.not_mem_nil, or_false] at hpc
  subst hpc
  intro x
  obtain ⟨r, p, hp⟩ : ∃ (r : Fin 64) (p : Fin 256), x = (ix3 0 r p : S1x64x256.Idx) := ⟨x 1, x 2, by
    funext a; fin_cases a
    · exact Subsingleton.elim (α := Fin 1) _ _
    · rfl
    · rfl⟩
  subst hp
  have hc : ((Rect.unit (s := S1x64x2048) (k0_off8 k) S1x64x256.size (k0_off8_inb k)).emb (ix3 0 r p : S1x64x256.Idx)) 1 = r := by
    apply Fin.ext
    show (k0_off8 k) 1 + 1 * r.val = r.val
    rw [k0_off8_eq]
    show 0 + 1 * r.val = r.val
    omega
  have hn : (((Rect.unit (s := S1x64x2048) (k0_off8 k) S1x64x256.size (k0_off8_inb k)).emb (ix3 0 r p : S1x64x256.Idx)) 2).val
      = 256 * k.val + p.val := by
    show (k0_off8 k) 2 + 1 * p.val = _
    rw [k0_off8_eq]
    show 256 * k.val + 1 * p.val = _
    omega
  refine (pay17_at v0 v6 v7 v8 _ _ _ _ _ _ fr P h6 h7 h8
    (fun r l => (table_at _ _ r l _).trans (h12 r l)) (fun r l => (table_at _ _ r l _).trans (h13 r l))
    (fun r l => (table_at _ _ r l _).trans (h14 r l)) (fun r l => (table_at _ _ r l _).trans (h15 r l))
    (tile t k) (tile' t k) rfl _ _ _ _ _ (fun _ => tile_word t k) (funext fun _ => tile_word' t k) r p).trans ?_
  rw [pair_eq _ _ x0 E3 k p _ hn, pair_eq _ _ x0 E3 k p _ hn]
  unfold ropeB
  have ha : 128 * (tile t k).val + p.val
      = 2048 * t.val + (((Rect.unit (s := S1x64x2048) (k0_off8 k) S1x64x256.size (k0_off8_inb k)).emb (ix3 0 r p : S1x64x256.Idx)) 2).val := by
    rw [hn]; simp only [tile]; omega
  rw [ha]
  simp only [hc]
  rfl
end rope
end
end Cert.KernelIdeal.Hand

end
-- ==== Proof.KernelIdeal.Block.lean ====
module

public import proofs.«01_k».proof.Proof.KernelIdeal.Tables
public import proofs.«01_k».proof.Proof.KernelIdeal.Trip
public import Idealize.ShloMosaic.Lib.VecWindow
public import proofs.«01_k».proof.Proof.KernelIdeal.Frame
public import Idealize.ShloMosaic.Lib.Pipeline.Value

/-!
# What one block of 2048 tokens leaves in the three outputs, over the extended reals

The loop stores the trips' pieces. All of them agree with one function of the place in the block, and together they cover
it, so the block holds that function.
-/

@[expose] public section

namespace Cert.KernelIdeal.Hand
open Idealize Idealize.ShloMosaic Idealize.ShloMosaic.Tactic Idealize.ShloMosaic.TcCoe Cert.KernelIdeal Cert.KernelIdeal.Gen Cert.Val

set_option maxRecDepth 16384

section
variable (𝒱 : Variants) (c : Dev nD) (bd : Option 𝒱.V) (i : grid0.Coords) (arg2 : Memref sig .tc .smem S5 .i32) (harg2 : arg2.IsWhole) (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole) (arg0 : BitVec 32) (arg1 : BitVec 32) (v0 : IVec S32x128 32) (v6 : Vec Ideal S32x128 .f32) (v7 : Vec Ideal S32x128 .f32) (v8 : Vec Ideal S32x128 .f32) (X_arg2 : BufTy.Contents (Elt Ideal) arg2.view.ty) (X_arg3 : BufTy.Contents (Elt Ideal) arg3.view.ty) (X_arg9 : BufTy.Contents (Elt Ideal) arg9.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty)

section quant
variable (x0 : Vec Ideal S1x320x2048 .bf16) (gm : Fin 256 → EReal)
  (E3 : arg3.view.read (Elt Ideal) X_arg3 = x0)
  (E9 : ∀ (d : Fin 256) (l : Fin 128), arg9.view.read (Elt Ideal) X_arg9 (ix2 d l) = gm d)

include E3 E9 in
/-- The scales' pieces of the first trips. -/
theorem pb_scale (n : ℕ) (hn : n ≤ k0_t1_loop.trips) :
    ∀ pc ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 n).2.2, ∀ x : pc.1.shape.Idx, pc.2 x = scaleB x0 gm (pc.1.emb x) := by
  induction n with
  | zero => intro pc hpc; exact absurd hpc List.not_mem_nil
  | succ n ih =>
    intro pc hpc
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨n, hn⟩] at hpc
    rcases List.mem_append.mp hpc with h | h
    · exact trip_scale 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 x0 gm E3 E9 ⟨n, hn⟩ pc h
    · exact ih (Nat.le_of_succ_le hn) pc h

include E3 E9 in
/-- The codes' pieces of the first trips. -/
theorem pb_code (n : ℕ) (hn : n ≤ k0_t1_loop.trips) :
    ∀ pc ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 n).2.1, ∀ x : pc.1.shape.Idx, pc.2 x = codeB x0 gm (pc.1.emb x) := by
  induction n with
  | zero => intro pc hpc; exact absurd hpc List.not_mem_nil
  | succ n ih =>
    intro pc hpc
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨n, hn⟩] at hpc
    rcases List.mem_append.mp hpc with h | h
    · exact trip_code 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 x0 gm E3 E9 ⟨n, hn⟩ pc h
    · exact ih (Nat.le_of_succ_le hn) pc h
end quant

section rope
variable (x0 : Vec Ideal S1x320x2048 .bf16) (fr : Fin 32 → ℝ) (P : ℝ) (t : Fin 8)
  (E3 : arg3.view.read (Elt Ideal) X_arg3 = x0) (E1 : arg1 = BitVec.ofNat 32 t.val)
  (h6 : ∀ r l, v6 (ix2 r l) = (fr r : ℝ)) (h7 : ∀ r l, v7 (ix2 r l) = (fr r : ℝ)) (h8 : ∀ r l, v8 (ix2 r l) = ((0 : ℝ) : EReal))
  (h12 : ∀ r (l : Fin 128), arg12.view.read (Elt Ideal) X_arg12 (ix2 r l) = (Real.cos (((l.val : ℝ) * 128) * fr r) : ℝ))
  (h13 : ∀ r (l : Fin 128), arg13.view.read (Elt Ideal) X_arg13 (ix2 r l) = (Real.sin (((l.val : ℝ) * 128) * fr r) : ℝ))
  (h14 : ∀ r (l : Fin 128), arg14.view.read (Elt Ideal) X_arg14 (ix2 r l) = (Real.cos (((l.val : ℝ) + P) * fr r) : ℝ))
  (h15 : ∀ r (l : Fin 128), arg15.view.read (Elt Ideal) X_arg15 (ix2 r l) = (Real.sin (((l.val : ℝ) + P) * fr r) : ℝ))

include E3 E1 h6 h7 h8 h12 h13 h14 h15 in
/-- The rotated features' pieces of the first trips. -/
theorem pb_rope (n : ℕ) (hn : n ≤ k0_t1_loop.trips) :
    ∀ pc ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 n).1, ∀ x : pc.1.shape.Idx, pc.2 x = ropeB x0 fr P t.val (pc.1.emb x) := by
  induction n with
  | zero => intro pc hpc; exact absurd hpc List.not_mem_nil
  | succ n ih =>
    intro pc hpc
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 ⟨n, hn⟩] at hpc
    rcases List.mem_append.mp hpc with h | h
    · exact trip_rope 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v0 v6 v7 v8 X_arg2 X_arg3 X_arg9 X_arg12 X_arg13 X_arg14 X_arg15 x0 fr P t E3 E1 h6 h7 h8 h12 h13 h14 h15 ⟨n, hn⟩ pc h
    · exact ih (Nat.le_of_succ_le hn) pc h
end rope
end

/-- The loop makes as many trips as its bounds say. -/
theorem trips_le : Scf.trips k0_t1_loop.lb k0_t1_loop.ub k0_t1_loop.st ≤ k0_t1_loop.trips := le_of_eq (by first | rfl | decide +kernel)

section
variable (c : Dev nD) (i : grid0.Coords)
  (arg3 : Memref sig .tc .vmem S1x320x2048 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S1x64x2048 .bf16) (harg6 : arg6.IsWhole) (arg7 : Memref sig .tc .vmem S1x2048x256 .fp8e4m3) (harg7 : arg7.IsWhole) (arg8 : Memref sig .tc .vmem S1x2x2048 .f32) (harg8 : arg8.IsWhole) (arg9 : Memref sig .tc .vmem S256x128 .f32) (harg9 : arg9.IsWhole) (arg10 : Memref sig .tc .vmem S256x256 .bf16) (harg10 : arg10.IsWhole) (arg11 : Memref sig .tc .vmem S96x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S32x128 .f32) (harg14 : arg14.IsWhole) (arg15 : Memref sig .tc .vmem S32x128 .f32) (harg15 : arg15.IsWhole)

/-- What the frequencies' tables of a point hold, the frequencies `fr`. -/
def FqIs (X : Vec Ideal S96x128 .f32) (fr : Fin 32 → ℝ) : Prop :=
  ∀ (r : Fin 32) (l : Fin 128), X (ix2 ⟨r.val, by omega⟩ l) = (fr r : ℝ) ∧ X (ix2 ⟨32 + r.val, by omega⟩ l) = (fr r : ℝ)
    ∧ X (ix2 ⟨64 + r.val, by omega⟩ l) = ((0 : ℝ) : EReal)

/-- A load of 32 rows from row `o` on of the frequencies' tables. -/
theorem rows_at {sig : RefSig} {κ : Kind} {sp : Space} (v : View sig κ sp S96x128 .f32) (f : v.ty.Contents (Elt Ideal))
    (o : ℕ) (ho : o ≤ 64) (r : Fin 32) (l : Fin 128) (h) :
    View.readAt (Elt Ideal) v (Rect.unit (s := S96x128) ![o, 0] S32x128.size h).toLoadRect f (ix2 r l)
      = View.read (Elt Ideal) v f (ix2 ⟨o + r.val, by omega⟩ l) := by
  refine readAt_coords v f (Rect.unit (s := S96x128) ![o, 0] S32x128.size h) _ _ fun a => ?_
  fin_cases a
  · show o + r.val = o + 1 * r.val
    omega
  · show l.val = 0 + 1 * l.val
    omega

theorem out_B_scale (hc0 : ¬cond0_0 i) (hc1 : ¬cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32) (xs5 : Vec Ideal S32x128 .f32) (xs6 : Vec Ideal S32x128 .f32)
    (gm : Fin 256 → EReal) (E9 : ∀ (d : Fin 256) (l : Fin 128), xs0 (ix2 d l) = gm d) (y : S1x2x2048.Idx) :
    out0_B_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y = scaleB x0 gm y := by
  unfold out0_B_5
  rw [View.read_writes_junk_apply_eq_canon]
  refine View.canon_apply_of_pieces (scaleB x0 gm) _ ?_ y (cover0_B_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y)
  exact pb_scale Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 gm
    (harg3.read_unread x0) (fun d l => (congrFun (harg9.read_unread xs0) _).trans (E9 d l)) _ trips_le

theorem out_B_code (hc0 : ¬cond0_0 i) (hc1 : ¬cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32) (xs5 : Vec Ideal S32x128 .f32) (xs6 : Vec Ideal S32x128 .f32)
    (gm : Fin 256 → EReal) (E9 : ∀ (d : Fin 256) (l : Fin 128), xs0 (ix2 d l) = gm d) (y : S1x2048x256.Idx) :
    out0_B_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y = codeB x0 gm y := by
  unfold out0_B_4
  rw [View.read_writes_junk_apply_eq_canon]
  refine View.canon_apply_of_pieces (codeB x0 gm) _ ?_ y (cover0_B_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y)
  exact pb_code Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 gm
    (harg3.read_unread x0) (fun d l => (congrFun (harg9.read_unread xs0) _).trans (E9 d l)) _ trips_le

theorem out_C_scale (hc0 : ¬cond0_0 i) (hc1 : cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32)
    (gm : Fin 256 → EReal) (E9 : ∀ (d : Fin 256) (l : Fin 128), xs0 (ix2 d l) = gm d) (y : S1x2x2048.Idx) :
    out0_C_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y = scaleB x0 gm y := by
  unfold out0_C_5
  rw [View.read_writes_junk_apply_eq_canon]
  refine View.canon_apply_of_pieces (scaleB x0 gm) _ ?_ y (cover0_C_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y)
  exact pb_scale Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 gm
    (harg3.read_unread x0) (fun d l => (congrFun (harg9.read_unread xs0) _).trans (E9 d l)) _ trips_le

theorem out_C_code (hc0 : ¬cond0_0 i) (hc1 : cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32)
    (gm : Fin 256 → EReal) (E9 : ∀ (d : Fin 256) (l : Fin 128), xs0 (ix2 d l) = gm d) (y : S1x2048x256.Idx) :
    out0_C_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y = codeB x0 gm y := by
  unfold out0_C_4
  rw [View.read_writes_junk_apply_eq_canon]
  refine View.canon_apply_of_pieces (codeB x0 gm) _ ?_ y (cover0_C_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y)
  exact pb_code Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 gm
    (harg3.read_unread x0) (fun d l => (congrFun (harg9.read_unread xs0) _).trans (E9 d l)) _ trips_le

theorem out_B_rope (hc0 : ¬cond0_0 i) (hc1 : ¬cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32) (xs5 : Vec Ideal S32x128 .f32) (xs6 : Vec Ideal S32x128 .f32)
    (fr : Fin 32 → ℝ) (hfq : FqIs xs2 fr)
    (h12 : ∀ r (l : Fin 128), xs3 (ix2 r l) = (Real.cos (((l.val : ℝ) * 128) * fr r) : ℝ))
    (h13 : ∀ r (l : Fin 128), xs4 (ix2 r l) = (Real.sin (((l.val : ℝ) * 128) * fr r) : ℝ))
    (P : ℝ) (h14 : ∀ r (l : Fin 128), xs5 (ix2 r l) = (Real.cos (((l.val : ℝ) + P) * fr r) : ℝ))
    (h15 : ∀ r (l : Fin 128), xs6 (ix2 r l) = (Real.sin (((l.val : ℝ) + P) * fr r) : ℝ))
    (y : S1x64x2048.Idx) :
    out0_B_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y = ropeB x0 fr P (i 1).val y := by
  unfold out0_B_3
  rw [View.read_writes_junk_apply_eq_canon]
  have R := fun o ho r l h => (rows_at arg11.view (harg11.unread xs2) o ho r l h).trans (congrFun (harg11.read_unread xs2) _)
  have H6 := fun (r : Fin 32) (l : Fin 128) => (R 0 (by omega) r l (by decide)).trans ((congrArg (fun k => xs2 (ix2 k l)) (Fin.ext (Nat.zero_add r.val))).trans (hfq r l).1)
  have H7 := fun (r : Fin 32) (l : Fin 128) => (R 32 (by omega) r l (by decide)).trans (hfq r l).2.1
  have H8 := fun (r : Fin 32) (l : Fin 128) => (R 64 (by omega) r l (by decide)).trans (hfq r l).2.2
  refine View.canon_apply_of_pieces (ropeB x0 fr P (i 1).val) _ ?_ y (cover0_B_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 xs5 xs6 y)
  exact pb_rope Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 fr P (i 1)
    (harg3.read_unread x0) rfl H6 H7 H8 (fun r l => (congrFun (harg12.read_unread xs3) _).trans (h12 r l)) (fun r l => (congrFun (harg13.read_unread xs4) _).trans (h13 r l))
    (fun r l => (congrFun (harg14.read_unread xs5) _).trans (h14 r l)) (fun r l => (congrFun (harg15.read_unread xs6) _).trans (h15 r l)) _ trips_le

theorem out_C_rope (hc0 : ¬cond0_0 i) (hc1 : cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32)
    (fr : Fin 32 → ℝ) (hfq : FqIs xs2 fr)
    (h12 : ∀ r (l : Fin 128), xs3 (ix2 r l) = (Real.cos (((l.val : ℝ) * 128) * fr r) : ℝ))
    (h13 : ∀ r (l : Fin 128), xs4 (ix2 r l) = (Real.sin (((l.val : ℝ) * 128) * fr r) : ℝ))
    (hb : (kernelRun0_C.sl.r (F := Ideal) c i hc1 xt0).toInt ≤ 2 ^ 31 - 1 - 16383)
    (y : S1x64x2048.Idx) :
    out0_C_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y = ropeB x0 fr ((kernelRun0_C.sl.r (F := Ideal) c i hc1 xt0).toInt : ℝ) (i 1).val y := by
  unfold out0_C_3
  rw [View.read_writes_junk_apply_eq_canon]
  have R := fun o ho r l h => (rows_at arg11.view (harg11.unread xs2) o ho r l h).trans (congrFun (harg11.read_unread xs2) _)
  have H6 := fun (r : Fin 32) (l : Fin 128) => (R 0 (by omega) r l (by decide)).trans ((congrArg (fun k => xs2 (ix2 k l)) (Fin.ext (Nat.zero_add r.val))).trans (hfq r l).1)
  have H7 := fun (r : Fin 32) (l : Fin 128) => (R 32 (by omega) r l (by decide)).trans (hfq r l).2.1
  have H8 := fun (r : Fin 32) (l : Fin 128) => (R 64 (by omega) r l (by decide)).trans (hfq r l).2.2
  refine View.canon_apply_of_pieces (ropeB x0 fr ((kernelRun0_C.sl.r (F := Ideal) c i hc1 xt0).toInt : ℝ) (i 1).val) _ ?_ y (cover0_C_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 y)
  exact pb_rope Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (harg9.unread xs0) _ _ _ _ x0 fr ((kernelRun0_C.sl.r (F := Ideal) c i hc1 xt0).toInt : ℝ) (i 1)
    (harg3.read_unread x0) rfl H6 H7 H8 (fun r l => (congrFun (harg12.read_unread xs3) _).trans (h12 r l)) (fun r l => (congrFun (harg13.read_unread xs4) _).trans (h13 r l))
    (fun r l => (congrFun (View.read_writes_full ..) _).trans (pay15_at _ _ _ fr _ hb H6 H7 H8 r l))
    (fun r l => (congrFun (View.read_writes_full ..) _).trans (pay16_at _ _ _ fr _ hb H6 H7 H8 r l)) _ trips_le

theorem lane_C_5 (hc0 : ¬cond0_0 i) (hc1 : cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32)
    (fr : Fin 32 → ℝ) (hfq : FqIs xs2 fr) (hb : (kernelRun0_C.sl.r (F := Ideal) c i hc1 xt0).toInt ≤ 2 ^ 31 - 1 - 16383) (r : Fin 32) (l : Fin 128) :
    sout0_C_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 (ix2 r l)
      = (Real.cos (((l.val : ℝ) + ((kernelRun0_C.sl.r (F := Ideal) c i hc1 xt0).toInt : ℝ)) * fr r) : ℝ) := by
  unfold sout0_C_5
  have R := fun o ho r l h => (rows_at arg11.view (harg11.unread xs2) o ho r l h).trans (congrFun (harg11.read_unread xs2) _)
  have H6 := fun (r : Fin 32) (l : Fin 128) => (R 0 (by omega) r l (by decide)).trans ((congrArg (fun k => xs2 (ix2 k l)) (Fin.ext (Nat.zero_add r.val))).trans (hfq r l).1)
  have H7 := fun (r : Fin 32) (l : Fin 128) => (R 32 (by omega) r l (by decide)).trans (hfq r l).2.1
  have H8 := fun (r : Fin 32) (l : Fin 128) => (R 64 (by omega) r l (by decide)).trans (hfq r l).2.2
  exact (congrFun (View.read_writes_full ..) _).trans (pay15_at _ _ _ fr _ hb H6 H7 H8 r l)

theorem lane_C_6 (hc0 : ¬cond0_0 i) (hc1 : cond0_1 i)
    (x0 : Vec Ideal S1x320x2048 .bf16) (x1 : Vec Ideal S1x256 .f32) (x2 : Vec Ideal S1x128 .f32) (xt0 : TbBuf0 (F := Ideal) c tbM0_0) (xs0 : Vec Ideal S256x128 .f32) (xs2 : Vec Ideal S96x128 .f32) (xs3 : Vec Ideal S32x128 .f32) (xs4 : Vec Ideal S32x128 .f32)
    (fr : Fin 32 → ℝ) (hfq : FqIs xs2 fr) (hb : (kernelRun0_C.sl.r (F := Ideal) c i hc1 xt0).toInt ≤ 2 ^ 31 - 1 - 16383) (r : Fin 32) (l : Fin 128) :
    sout0_C_6 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 xs0 xs2 xs3 xs4 (ix2 r l)
      = (Real.sin (((l.val : ℝ) + ((kernelRun0_C.sl.r (F := Ideal) c i hc1 xt0).toInt : ℝ)) * fr r) : ℝ) := by
  unfold sout0_C_6
  have R := fun o ho r l h => (rows_at arg11.view (harg11.unread xs2) o ho r l h).trans (congrFun (harg11.read_unread xs2) _)
  have H6 := fun (r : Fin 32) (l : Fin 128) => (R 0 (by omega) r l (by decide)).trans ((congrArg (fun k => xs2 (ix2 k l)) (Fin.ext (Nat.zero_add r.val))).trans (hfq r l).1)
  have H7 := fun (r : Fin 32) (l : Fin 128) => (R 32 (by omega) r l (by decide)).trans (hfq r l).2.1
  have H8 := fun (r : Fin 32) (l : Fin 128) => (R 64 (by omega) r l (by decide)).trans (hfq r l).2.2
  exact (congrFun (View.read_writes_full ..) _).trans (pay16_at _ _ _ fr _ hb H6 H7 H8 r l)

/-- Over whole vectors of the loads: the pieces of the gains. -/
theorem gains_A (x1 : Vec Ideal S1x256 .f32) (y : S256x128.Idx) :
    View.canon (kernelRun0_A.sl.HS0_2 (F := Ideal) c arg4 harg4 x1) y = x1 (ix2 0 (y 0)) := by
  refine View.canon_apply_of_pieces (fun y : S256x128.Idx => x1 (ix2 0 (y 0))) _ ?_ y ?_
  · unfold kernelRun0_A.sl.HS0_2
    intro pc hpc
    simp only [List.mem_cons, List.not_mem_nil, or_false] at hpc
    rcases hpc with rfl | rfl
    · intro x
      obtain ⟨d, l, rfl⟩ : ∃ d l : Fin 128, x = (ix2 d l : S128x128.Idx) := ⟨x 0, x 1, by funext a; fin_cases a <;> rfl⟩
      have e : k0_pay19 (F := Ideal) (View.readAt (Elt Ideal) arg4.view (Rect.unit (s := S1x256) ![0, 128] S1x128.size inb_S1x256_S1x128_0_128).toLoadRect (harg4.unread x1)) (ix2 d l) = x1 (ix2 0 ⟨128 + d.val, by omega⟩) := by
        refine (pay19_at _ d l).trans ((readAt_coords arg4.view _ _ _ (ix2 0 ⟨128 + d.val, by omega⟩ : S1x256.Idx) fun a => ?_).trans (congrFun (harg4.read_unread x1) _))
        fin_cases a
        · rfl
        · show 128 + d.val = 128 + 1 * d.val
          omega
      refine Eq.trans e (congrArg (fun k => x1 (ix2 0 k)) (Fin.ext ?_))
      show 128 + d.val = 128 + 1 * d.val
      omega
    · intro x
      obtain ⟨d, l, rfl⟩ : ∃ d l : Fin 128, x = (ix2 d l : S128x128.Idx) := ⟨x 0, x 1, by funext a; fin_cases a <;> rfl⟩
      have e : k0_pay18 (F := Ideal) (View.readAt (Elt Ideal) arg4.view (Rect.unit (s := S1x256) ![0, 0] S1x128.size inb_S1x256_S1x128_0_0).toLoadRect (harg4.unread x1)) (ix2 d l) = x1 (ix2 0 ⟨d.val, by omega⟩) := by
        refine (pay18_at _ d l).trans ((readAt_coords arg4.view _ _ _ (ix2 0 ⟨d.val, by omega⟩ : S1x256.Idx) fun a => ?_).trans (congrFun (harg4.read_unread x1) _))
        fin_cases a
        · rfl
        · show d.val = 0 + 1 * d.val
          omega
      refine Eq.trans e (congrArg (fun k => x1 (ix2 0 k)) (Fin.ext ?_))
      show d.val = 0 + 1 * d.val
      omega
  · exact View.cover_of_tiledL (kernelRun0_A.sl.HS0_2 (F := Ideal) c arg4 harg4 x1) S128x128.size (by sl_kernel_rfl) y

/-- A load of the row of frequencies. -/
theorem freq_A (x2 : Vec Ideal S1x128 .f32) (j : Fin 128) (h) :
    View.readAt (Elt Ideal) arg5.view (Rect.unit (s := S1x128) ![0, 0] S1x128.size h).toLoadRect (harg5.unread x2) (ix2 0 j) = x2 (ix2 0 j) := by
  refine (readAt_coords arg5.view _ _ _ (ix2 0 j : S1x128.Idx) fun a => ?_).trans (congrFun (harg5.read_unread x2) _)
  fin_cases a
  · rfl
  · show j.val = 0 + 1 * j.val
    omega

theorem r_A (x2 : Vec Ideal S1x128 .f32) (fr : Fin 32 → ℝ) (hx2 : ∀ r : Fin 32, x2 (ix2 0 ⟨r.val, by omega⟩) = (fr r : ℝ)) (r : Fin 32) (l : Fin 128) :
    kernelRun0_A.sl.r (F := Ideal) c arg5 harg5 x2 (ix2 r l) = (fr r : ℝ) :=
  (pay21_at _ r l).trans ((freq_A arg5 harg5 x2 _ _).trans (hx2 r))

theorem r1_A (x2 : Vec Ideal S1x128 .f32) (fr : Fin 32 → ℝ) (hx2 : ∀ r : Fin 32, x2 (ix2 0 ⟨r.val, by omega⟩) = (fr r : ℝ)) (r : Fin 32) (l : Fin 128) :
    kernelRun0_A.sl.r_1 (F := Ideal) c arg5 harg5 x2 (ix2 r l) = (fr r : ℝ) :=
  (pay22_at _ r l).trans ((freq_A arg5 harg5 x2 _ _).trans (hx2 r))

/-- The three tables of frequencies: twice the frequency, then zero. -/
noncomputable def fqOf (fr : Fin 32 → ℝ) (y : S96x128.Idx) : EReal :=
  if (y 0).val < 64 then ((fr ⟨(y 0).val % 32, by omega⟩ : ℝ) : EReal) else ((0 : ℝ) : EReal)

theorem fq_A (x2 : Vec Ideal S1x128 .f32) (fr : Fin 32 → ℝ) (hx2 : ∀ r : Fin 32, x2 (ix2 0 ⟨r.val, by omega⟩) = (fr r : ℝ)) (y : S96x128.Idx) :
    View.canon (kernelRun0_A.sl.HS2_3 (F := Ideal) c arg5 harg5 x2) y
      = fqOf fr y := by
  refine View.canon_apply_of_pieces (Val := Elt Ideal) (e := .f32) (fqOf fr) _ ?_ y ?_
  · unfold kernelRun0_A.sl.HS2_3
    intro pc hpc
    simp only [List.mem_cons, List.not_mem_nil, or_false] at hpc
    have R := r_A c arg5 harg5 x2 fr hx2
    have R1 := r1_A c arg5 harg5 x2 fr hx2
    rcases hpc with rfl | rfl | rfl
    · intro x
      obtain ⟨r, l, rfl⟩ : ∃ (r : Fin 32) (l : Fin 128), x = (ix2 r l : S32x128.Idx) := ⟨x 0, x 1, by funext a; fin_cases a <;> rfl⟩
      refine (pay2_at _ _ fr R R1 r l).trans (if_neg ?_).symm
      show ¬ 64 + 1 * r.val < 64
      omega
    · intro x
      obtain ⟨r, l, rfl⟩ : ∃ (r : Fin 32) (l : Fin 128), x = (ix2 r l : S32x128.Idx) := ⟨x 0, x 1, by funext a; fin_cases a <;> rfl⟩
      refine (pay1_at _ fr R1 r l).trans ((if_pos ?_).trans (congrArg (fun k => ((fr k : ℝ) : EReal)) (Fin.ext ?_))).symm
      · show 32 + 1 * r.val < 64
        omega
      · show (32 + 1 * r.val) % 32 = r.val
        omega
    · intro x
      obtain ⟨r, l, rfl⟩ : ∃ (r : Fin 32) (l : Fin 128), x = (ix2 r l : S32x128.Idx) := ⟨x 0, x 1, by funext a; fin_cases a <;> rfl⟩
      refine ((pay23_at _ r l).trans ((freq_A arg5 harg5 x2 _ _).trans (hx2 r))).trans ((if_pos ?_).trans (congrArg (fun k => ((fr k : ℝ) : EReal)) (Fin.ext ?_))).symm
      · show 0 + 1 * r.val < 64
        omega
      · show (0 + 1 * r.val) % 32 = r.val
        omega
  · exact View.cover_of_tiledL (kernelRun0_A.sl.HS2_3 (F := Ideal) c arg5 harg5 x2) S32x128.size (by sl_kernel_rfl) y

theorem v6_A (x2 : Vec Ideal S1x128 .f32) (fr : Fin 32 → ℝ) (hx2 : ∀ r : Fin 32, x2 (ix2 0 ⟨r.val, by omega⟩) = (fr r : ℝ)) (r : Fin 32) (l : Fin 128) :
    kernelRun0_A.sl.v6 (F := Ideal) c arg5 harg5 arg11 x2 (ix2 r l) = (fr r : ℝ) := by
  unfold kernelRun0_A.sl.v6
  rw [View.readCov_eq_canon']
  refine (fq_A c arg5 harg5 x2 fr hx2 _).trans ((if_pos ?_).trans (congrArg (fun k => ((fr k : ℝ) : EReal)) (Fin.ext ?_)))
  · show 0 + 1 * r.val < 64
    omega
  · show (0 + 1 * r.val) % 32 = r.val
    omega

theorem v7_A (x2 : Vec Ideal S1x128 .f32) (fr : Fin 32 → ℝ) (hx2 : ∀ r : Fin 32, x2 (ix2 0 ⟨r.val, by omega⟩) = (fr r : ℝ)) (r : Fin 32) (l : Fin 128) :
    kernelRun0_A.sl.v7 (F := Ideal) c arg5 harg5 arg11 x2 (ix2 r l) = (fr r : ℝ) := by
  unfold kernelRun0_A.sl.v7
  rw [View.readCov_eq_canon']
  refine (fq_A c arg5 harg5 x2 fr hx2 _).trans ((if_pos ?_).trans (congrArg (fun k => ((fr k : ℝ) : EReal)) (Fin.ext ?_)))
  · show 32 + 1 * r.val < 64
    omega
  · show (32 + 1 * r.val) % 32 = r.val
    omega

theorem v8_A (x2 : Vec Ideal S1x128 .f32) (fr : Fin 32 → ℝ) (hx2 : ∀ r : Fin 32, x2 (ix2 0 ⟨r.val, by omega⟩) = (fr r : ℝ)) (r : Fin 32) (l : Fin 128) :
    kernelRun0_A.sl.v8 (F := Ideal) c arg5 harg5 arg11 x2 (ix2 r l) = ((0 : ℝ) : EReal) := by
  unfold kernelRun0_A.sl.v8
  rw [View.readCov_eq_canon']
  refine (fq_A c arg5 harg5 x2 fr hx2 _).trans (if_neg ?_)
  show ¬ 64 + 1 * r.val < 64
  omega

theorem out_A_scale (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (y : S1x2x2048.Idx) :
    out0_A_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y = scaleB x0 (fun d => x1 (ix2 0 d)) y := by
  unfold out0_A_5
  rw [View.read_writes_junk_apply_eq_canon]
  refine View.canon_apply_of_pieces (scaleB x0 (fun d => x1 (ix2 0 d))) _ ?_ y (cover0_A_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y)
  exact pb_scale Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (arg9.view.writes (Elt Ideal) arg9.view.junk (kernelRun0_A.sl.HS0_2 (F := Ideal) c arg4 harg4 x1)) _ _ _ _ x0 (fun d => x1 (ix2 0 d))
    (harg3.read_unread x0) (fun d l => (View.read_writes_junk_apply_eq_canon _ _ _).trans (gains_A c arg4 harg4 x1 _)) _ trips_le

theorem out_A_code (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (y : S1x2048x256.Idx) :
    out0_A_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y = codeB x0 (fun d => x1 (ix2 0 d)) y := by
  unfold out0_A_4
  rw [View.read_writes_junk_apply_eq_canon]
  refine View.canon_apply_of_pieces (codeB x0 (fun d => x1 (ix2 0 d))) _ ?_ y (cover0_A_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y)
  exact pb_code Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) (arg9.view.writes (Elt Ideal) arg9.view.junk (kernelRun0_A.sl.HS0_2 (F := Ideal) c arg4 harg4 x1)) _ _ _ _ x0 (fun d => x1 (ix2 0 d))
    (harg3.read_unread x0) (fun d l => (View.read_writes_junk_apply_eq_canon _ _ _).trans (gains_A c arg4 harg4 x1 _)) _ trips_le

theorem gam_A (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (d : Fin 256) (l : Fin 128) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 (ix2 d l) = x1 (ix2 0 d) :=
  (View.read_writes_junk_apply_eq_canon _ _ _).trans (gains_A c arg4 harg4 x1 _)

theorem fqIs_A (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) : FqIs (sout0_A_2 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0) fr := by
  intro r l
  have H := fun y => (View.read_writes_junk_apply_eq_canon VS0_2 y (kernelRun0_A.sl.HS2_3 (F := Ideal) c arg5 harg5 x2)).trans (fq_A c arg5 harg5 x2 fr hx2 y)
  refine ⟨(H _).trans ((if_pos ?_).trans (congrArg (fun k => ((fr k : ℝ) : EReal)) (Fin.ext ?_))),
    (H _).trans ((if_pos ?_).trans (congrArg (fun k => ((fr k : ℝ) : EReal)) (Fin.ext ?_))), (H _).trans (if_neg ?_)⟩
  · show r.val < 64
    omega
  · show r.val % 32 = r.val
    omega
  · show 32 + r.val < 64
    omega
  · show (32 + r.val) % 32 = r.val
    omega
  · show ¬ 64 + r.val < 64
    omega

theorem tab_A_3 (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) (r : Fin 32) (l : Fin 128) :
    sout0_A_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 (ix2 r l) = (Real.cos (((l.val : ℝ) * 128) * fr r) : ℝ) :=
  (congrFun (View.read_writes_full ..) _).trans (pay8_at _ _ fr (r_A c arg5 harg5 x2 fr hx2) (r1_A c arg5 harg5 x2 fr hx2) r l)

theorem tab_A_4 (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) (r : Fin 32) (l : Fin 128) :
    sout0_A_4 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 (ix2 r l) = (Real.sin (((l.val : ℝ) * 128) * fr r) : ℝ) :=
  (congrFun (View.read_writes_full ..) _).trans (pay9_at _ _ fr (r_A c arg5 harg5 x2 fr hx2) (r1_A c arg5 harg5 x2 fr hx2) r l)

theorem lane_A_5 (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) (hb : (kernelRun0_A.sl.r_2 (F := Ideal) c i hc1 xt0).toInt ≤ 2 ^ 31 - 1 - 16383) (r : Fin 32) (l : Fin 128) :
    sout0_A_5 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 (ix2 r l) = (Real.cos (((l.val : ℝ) + ((kernelRun0_A.sl.r_2 (F := Ideal) c i hc1 xt0).toInt : ℝ)) * fr r) : ℝ) :=
  (congrFun (View.read_writes_full ..) _).trans (pay15_at _ _ _ fr _ hb (v6_A c arg5 harg5 arg11 x2 fr hx2) (v7_A c arg5 harg5 arg11 x2 fr hx2) (v8_A c arg5 harg5 arg11 x2 fr hx2) r l)

theorem lane_A_6 (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) (hb : (kernelRun0_A.sl.r_2 (F := Ideal) c i hc1 xt0).toInt ≤ 2 ^ 31 - 1 - 16383) (r : Fin 32) (l : Fin 128) :
    sout0_A_6 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 (ix2 r l) = (Real.sin (((l.val : ℝ) + ((kernelRun0_A.sl.r_2 (F := Ideal) c i hc1 xt0).toInt : ℝ)) * fr r) : ℝ) :=
  (congrFun (View.read_writes_full ..) _).trans (pay16_at _ _ _ fr _ hb (v6_A c arg5 harg5 arg11 x2 fr hx2) (v7_A c arg5 harg5 arg11 x2 fr hx2) (v8_A c arg5 harg5 arg11 x2 fr hx2) r l)

theorem out_A_rope (hc0 : cond0_0 i) (hc1 : cond0_1 i)
    (x0 : Vec Ideal S1x320x2048 .bf16) (x1 : Vec Ideal S1x256 .f32) (x2 : Vec Ideal S1x128 .f32) (xt0 : TbBuf0 (F := Ideal) c tbM0_0) (fr : Fin 32 → ℝ) (hx2 : ∀ r : Fin 32, x2 (ix2 0 ⟨r.val, by omega⟩) = (fr r : ℝ)) (hb : (kernelRun0_A.sl.r_2 (F := Ideal) c i hc1 xt0).toInt ≤ 2 ^ 31 - 1 - 16383)
    (y : S1x64x2048.Idx) :
    out0_A_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y = ropeB x0 fr ((kernelRun0_A.sl.r_2 (F := Ideal) c i hc1 xt0).toInt : ℝ) (i 1).val y := by
  unfold out0_A_3
  rw [View.read_writes_junk_apply_eq_canon]
  refine View.canon_apply_of_pieces (ropeB x0 fr ((kernelRun0_A.sl.r_2 (F := Ideal) c i hc1 xt0).toInt : ℝ) (i 1).val) _ ?_ y (cover0_A_3 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 xt0 y)
  exact pb_rope Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 _ _ _ _ _ _ _ (harg3.unread x0) _ _ _ _ _ x0 fr ((kernelRun0_A.sl.r_2 (F := Ideal) c i hc1 xt0).toInt : ℝ) (i 1)
    (harg3.read_unread x0) rfl (v6_A c arg5 harg5 arg11 x2 fr hx2) (v7_A c arg5 harg5 arg11 x2 fr hx2) (v8_A c arg5 harg5 arg11 x2 fr hx2) (fun r l => (congrFun (View.read_writes_full ..) _).trans (pay8_at _ _ fr (r_A c arg5 harg5 x2 fr hx2) (r1_A c arg5 harg5 x2 fr hx2) r l)) (fun r l => (congrFun (View.read_writes_full ..) _).trans (pay9_at _ _ fr (r_A c arg5 harg5 x2 fr hx2) (r1_A c arg5 harg5 x2 fr hx2) r l))
    (fun r l => (congrFun (View.read_writes_full ..) _).trans (pay15_at _ _ _ fr _ hb (v6_A c arg5 harg5 arg11 x2 fr hx2) (v7_A c arg5 harg5 arg11 x2 fr hx2) (v8_A c arg5 harg5 arg11 x2 fr hx2) r l)) (fun r l => (congrFun (View.read_writes_full ..) _).trans (pay16_at _ _ _ fr _ hb (v6_A c arg5 harg5 arg11 x2 fr hx2) (v7_A c arg5 harg5 arg11 x2 fr hx2) (v8_A c arg5 harg5 arg11 x2 fr hx2) r l)) _ trips_le

end
end Cert.KernelIdeal.Hand

end
-- ==== Proof.KernelIdeal.State.lean ====
module

public import proofs.«01_k».proof.Proof.KernelIdeal.Block

/-!
# What every point leaves in the outputs and the tables it hands on, over the extended reals

By induction over the 40 points: the first point fills the tables of the gains and of the frequencies, the first point of each
batch row the tables of the row's offset, and every point finds them as they were left.
-/

@[expose] public section

namespace Cert.KernelIdeal.Hand
open Idealize Idealize.ShloMosaic Idealize.ShloMosaic.Tactic Idealize.ShloMosaic.TcCoe Cert.KernelIdeal Cert.KernelIdeal.Gen Cert.Val

set_option maxRecDepth 16384
set_option backward.proofsInPublic true

/-- A point's batch row and its place in it. -/
theorem coords_at : ∀ t : Fin 40, (grid0.coords t 0).val = t.val / 8 ∧ (grid0.coords t 1).val = t.val % 8 := by decide +kernel

variable (m : (ℓ : Loc nD τ sig) → Buf (Elt Ideal) ℓ) (hO : Ok m) (c : Dev nD)
  (gm : Fin 256 → EReal) (fr : Fin 32 → ℝ) (pos : ℕ → BitVec 32)

/-- What the point at `n` leaves in the tables. -/
structure Tables (n : ℕ) (hn : n < (cfgM m hO).N) : Prop where
  gam : ∀ d l, (outsAt0 m hO c n hn).2.2.2.1 (ix2 d l) = gm d
  fq : FqIs (outsAt0 m hO c n hn).2.2.2.2.1 fr
  tc : ∀ r (l : Fin 128), (outsAt0 m hO c n hn).2.2.2.2.2.1 (ix2 r l) = (Real.cos (((l.val : ℝ) * 128) * fr r) : ℝ)
  ts : ∀ r (l : Fin 128), (outsAt0 m hO c n hn).2.2.2.2.2.2.1 (ix2 r l) = (Real.sin (((l.val : ℝ) * 128) * fr r) : ℝ)
  lc : ∀ r (l : Fin 128), (outsAt0 m hO c n hn).2.2.2.2.2.2.2.1 (ix2 r l) = (Real.cos (((l.val : ℝ) + ((pos (n / 8)).toInt : ℝ)) * fr r) : ℝ)
  ls : ∀ r (l : Fin 128), (outsAt0 m hO c n hn).2.2.2.2.2.2.2.2 (ix2 r l) = (Real.sin (((l.val : ℝ) + ((pos (n / 8)).toInt : ℝ)) * fr r) : ℝ)

/-- What the point at `n` leaves in the outputs. -/
structure Outs (n : ℕ) (hn : n < (cfgM m hO).N) : Prop where
  rope : ∀ y, (outsAt0 m hO c n hn).1 y = ropeB (iblk m hO c 0 ⟨n, hn⟩) fr ((pos (n / 8)).toInt : ℝ) (n % 8) y
  code : ∀ y, (outsAt0 m hO c n hn).2.1 y = codeB (iblk m hO c 0 ⟨n, hn⟩) gm y
  scale : ∀ y, (outsAt0 m hO c n hn).2.2.1 y = scaleB (iblk m hO c 0 ⟨n, hn⟩) gm y

variable (hgm : ∀ t d, (iblk m hO c 1 t : Vec Ideal S1x256 .f32) (ix2 0 d) = gm d)
  (hfr : ∀ t (r : Fin 32), (iblk m hO c 2 t : Vec Ideal S1x128 .f32) (ix2 0 (⟨r.val, Nat.lt_trans r.isLt (by decide)⟩ : Fin 128)) = ((fr r : ℝ) : EReal))
  (hA : ∀ i hc1, kernelRun0_A.sl.r_2 (F := Ideal) c i hc1 (tbl m 0) = pos (i 0).val)
  (hC : ∀ i hc1, kernelRun0_C.sl.r (F := Ideal) c i hc1 (tbl m 0) = pos (i 0).val)
  (hb : ∀ k, k < 5 → (pos k).toInt ≤ 2 ^ 31 - 1 - 16383)

set_option maxHeartbeats 2000000 in
include hgm hfr hA hb in
theorem point_A (t : Fin (cfgM m hO).N) (h0 : t.val % 40 = 0) (h1 : t.val % 8 = 0) :
    Tables m hO c gm fr pos t.val t.isLt ∧ Outs m hO c gm fr pos t.val t.isLt := by
  have ht : t.val < 40 := lt_of_lt_of_eq t.isLt (show (cfgM m hO).N = 40 from N_0)
  have q := coords_at ⟨t.val, ht⟩
  have e0 : (grid0.coords t 0).val = t.val / 8 := q.1
  have e1 : (grid0.coords t 1).val = t.val % 8 := q.2
  have p := hA (grid0.coords t) ((hcond0_1 t).mpr h1)
  rw [e0] at p
  have b : (kernelRun0_A.sl.r_2 (F := Ideal) c (grid0.coords t) ((hcond0_1 t).mpr h1) (tbl m 0)).toInt ≤ 2 ^ 31 - 1 - 16383 := by
    rw [p]; exact hb _ (by omega)
  constructor
  · constructor <;> rw [outsAt0_A m hO c t h0 h1]
    · intro d l
      exact (gam_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) d l).trans (hgm t d)
    · exact fqIs_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t)
    · exact fun r l => tab_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t) r l
    · exact fun r l => tab_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t) r l
    · intro r l
      refine (lane_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t) b r l).trans ?_
      rw [p]
    · intro r l
      refine (lane_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t) b r l).trans ?_
      rw [p]
  · constructor <;> rw [outsAt0_A m hO c t h0 h1] <;> intro y
    · refine (out_A_rope c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) fr (hfr t) b y).trans ?_
      rw [p, e1]
    · refine (out_A_code c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) y).trans ?_
      exact congrArg (fun g => codeB _ g y) (funext fun d => hgm t d)
    · refine (out_A_scale c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m hO c 0 t) (iblk m hO c 1 t) (iblk m hO c 2 t) (tbl m 0) y).trans ?_
      exact congrArg (fun g => scaleB _ g y) (funext fun d => hgm t d)

include hC hb in
theorem point_C (t : Fin (cfgM m hO).N) (h0 : ¬ t.val % 40 = 0) (h1 : t.val % 8 = 0)
    (T : Tables m hO c gm fr pos (t.val - 1) (Nat.lt_of_le_of_lt (Nat.sub_le _ _) t.isLt)) :
    Tables m hO c gm fr pos t.val t.isLt ∧ Outs m hO c gm fr pos t.val t.isLt := by
  have ht : t.val < 40 := lt_of_lt_of_eq t.isLt (show (cfgM m hO).N = 40 from N_0)
  have q := coords_at ⟨t.val, ht⟩
  have e0 : (grid0.coords t 0).val = t.val / 8 := q.1
  have e1 : (grid0.coords t 1).val = t.val % 8 := q.2
  have p := hC (grid0.coords t) ((hcond0_1 t).mpr h1)
  rw [e0] at p
  have b : (kernelRun0_C.sl.r (F := Ideal) c (grid0.coords t) ((hcond0_1 t).mpr h1) (tbl m 0)).toInt ≤ 2 ^ 31 - 1 - 16383 := by
    rw [p]; exact hb _ (by omega)
  constructor
  · constructor <;> rw [outsAt0_C m hO c t h0 h1]
    · exact T.gam
    · exact T.fq
    · exact T.tc
    · exact T.ts
    · intro r l
      refine (lane_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 fr T.fq b r l).trans ?_
      rw [p]
    · intro r l
      refine (lane_C_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 fr T.fq b r l).trans ?_
      rw [p]
  · constructor <;> rw [outsAt0_C m hO c t h0 h1] <;> intro y
    · refine (out_C_rope c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 fr T.fq T.tc T.ts b y).trans ?_
      rw [p, e1]
    · exact out_C_code c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 gm T.gam y
    · exact out_C_scale c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 gm T.gam y

theorem point_B (t : Fin (cfgM m hO).N) (h0 : ¬ t.val % 40 = 0) (h1 : ¬ t.val % 8 = 0)
    (T : Tables m hO c gm fr pos (t.val - 1) (Nat.lt_of_le_of_lt (Nat.sub_le _ _) t.isLt)) :
    Tables m hO c gm fr pos t.val t.isLt ∧ Outs m hO c gm fr pos t.val t.isLt := by
  have ht : t.val < 40 := lt_of_lt_of_eq t.isLt (show (cfgM m hO).N = 40 from N_0)
  have e1 : (grid0.coords t 1).val = t.val % 8 := (coords_at ⟨t.val, ht⟩).2
  have e : (t.val - 1) / 8 = t.val / 8 := by omega
  constructor
  · constructor <;> rw [outsAt0_B m hO c t h0 h1]
    · exact T.gam
    · exact T.fq
    · exact T.tc
    · exact T.ts
    · rw [← e]; exact T.lc
    · rw [← e]; exact T.ls
  · constructor <;> rw [outsAt0_B m hO c t h0 h1] <;> intro y
    · refine (out_B_rope c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2 fr T.fq T.tc T.ts _ T.lc T.ls y).trans ?_
      rw [e, e1]
    · exact out_B_code c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2 gm T.gam y
    · exact out_B_scale c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m hO c 0 t) (iblk m hO c 1 t) (iblk m hO c 2 t) (tbl m 0) (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2.1 (outsAt0 m hO c (t.val - 1) (Nat.lt_of_le_of_lt (Nat.sub_le _ _) t.isLt)).2.2.2.2.2.2.1 (outsAt0 m hO c (t.val - 1) (Nat.lt_of_le_of_lt (Nat.sub_le _ _) t.isLt)).2.2.2.2.2.2.2.1 (outsAt0 m hO c (t.val - 1) (Nat.lt_of_le_of_lt (Nat.sub_le _ _) t.isLt)).2.2.2.2.2.2.2.2 gm T.gam y

include hgm hfr hA hC hb in
/-- What every point leaves. -/
theorem points (n : ℕ) (hn : n < (cfgM m hO).N) :
    Tables m hO c gm fr pos n hn ∧ Outs m hO c gm fr pos n hn := by
  induction n with
  | zero => exact point_A m hO c gm fr pos hgm hfr hA hb ⟨0, hn⟩ rfl rfl
  | succ n ih =>
    have T := (ih (Nat.lt_of_succ_lt hn)).1
    have ht : n + 1 < 40 := lt_of_lt_of_eq hn (show (cfgM m hO).N = 40 from N_0)
    by_cases h1 : (n + 1) % 8 = 0
    · exact point_C m hO c gm fr pos hC hb ⟨n + 1, hn⟩ (by show ¬ (n + 1) % 40 = 0; omega) h1 T
    · exact point_B m hO c gm fr pos ⟨n + 1, hn⟩ (by show ¬ (n + 1) % 40 = 0; omega) h1 T

end Cert.KernelIdeal.Hand

end
-- ==== Proof.Value.Exponent.lean ====
module

public import proofs.«01_k».proof.Proof.Value.Scalar

/-!
# The exponent search finds the binary logarithm

The kernel finds the exponent of a group's step by an eight step search over the exponent field. Over the reals the field it
finds is the largest one whose power of two does not exceed the step, so the scale built from it is the next power of two.
-/

@[expose] public section

namespace Cert.Val
open Idealize Idealize.ShloMosaic

/-- The number an exponent field alone stands for. -/
noncomputable def fieldVal (k : ℕ) : EReal := Ideal.ofBits .f32 (BitVec.ofNat 32 (k * 8388608))

theorem fieldVal_pos (k : ℕ) (h1 : 1 ≤ k) (h2 : k ≤ 254) : fieldVal k = (((2 : ℝ) ^ ((k : ℤ) - 127) : ℝ) : EReal) := by
  have e1 : ((BitVec.ofNat 32 (k * 8388608)).extractLsb' 23 8).toNat = k := by
    rw [BitVec.extractLsb'_toNat, BitVec.toNat_ofNat, Nat.shiftRight_eq_div_pow]; omega
  have e2 : ((BitVec.ofNat 32 (k * 8388608)).extractLsb' 0 23).toNat = 0 := by
    rw [BitVec.extractLsb'_toNat, BitVec.toNat_ofNat, Nat.shiftRight_eq_div_pow]; omega
  have e3 : ((BitVec.ofNat 32 (k * 8388608)).extractLsb' 31 1 == 1#1) = false := by
    rw [beq_eq_false_iff_ne]
    intro h
    have := congrArg BitVec.toNat h
    rw [BitVec.extractLsb'_toNat, BitVec.toNat_ofNat, Nat.shiftRight_eq_div_pow] at this
    simp at this
    omega
  show Ideal.ieee 8 23 (BitVec.ofNat 32 (k * 8388608)) = _
  unfold Ideal.ieee
  simp only [e1, e2, e3]
  rw [if_neg (by norm_num; omega), if_neg (by omega)]
  congr 1
  norm_num
  rw [show ((k : ℤ) - 127) = (k : ℤ) - 127 - 23 + 23 by ring, zpow_add₀ (by norm_num : (2 : ℝ) ≠ 0)]
  norm_num
  ring

theorem fieldVal_zero : fieldVal 0 = 0 := by
  simp [fieldVal, Ideal.ofBits, Ideal.ieee]

theorem fieldVal_top : fieldVal 255 = ⊤ := by
  simp [fieldVal, Ideal.ofBits, Ideal.ieee]

/-- What a search that starts at `e` and looks `w` fields up knows. -/
def Found (v : EReal) (e w : ℕ) : Prop := fieldVal e ≤ v ∧ e + w ≤ 256 ∧ (v < fieldVal (e + w) ∨ e + w = 256)

theorem step_found (v : EReal) (e w : ℕ) (hw : 0 < w) (h : Found v e (2 * w)) :
    ∃ e', step v (BitVec.ofNat 32 (e * 8388608)) (BitVec.ofNat 32 (w * 8388608)) = BitVec.ofNat 32 (e' * 8388608) ∧ Found v e' w := by
  obtain ⟨h1, h2, h3⟩ := h
  have ea : IntOp.addi (BitVec.ofNat 32 (e * 8388608)) (BitVec.ofNat 32 (w * 8388608)) = BitVec.ofNat 32 ((e + w) * 8388608) := by
    show BitVec.ofNat 32 (e * 8388608) + BitVec.ofNat 32 (w * 8388608) = _
    rw [← BitVec.ofNat_add, Nat.add_mul]
  have es : step v (BitVec.ofNat 32 (e * 8388608)) (BitVec.ofNat 32 (w * 8388608))
      = if v < fieldVal (e + w) then BitVec.ofNat 32 (e * 8388608) else BitVec.ofNat 32 ((e + w) * 8388608) := by
    unfold step
    rw [ea]
    by_cases q : v < fieldVal (e + w)
    · rw [if_pos q]
      have : FloatOps.cmpf (F := Ideal) (φ := .f32) .olt v (FloatOps.ofBits .f32 (BitVec.ofNat 32 ((e + w) * 8388608))) = 1#1 :=
        congrArg BitVec.ofBool (decide_eq_true q)
      rw [this]; rfl
    · rw [if_neg q]
      have : FloatOps.cmpf (F := Ideal) (φ := .f32) .olt v (FloatOps.ofBits .f32 (BitVec.ofNat 32 ((e + w) * 8388608))) = 0#1 :=
        congrArg BitVec.ofBool (decide_eq_false q)
      rw [this]; rfl
  by_cases q : v < fieldVal (e + w)
  · exact ⟨e, es.trans (if_pos q), h1, by omega, Or.inl q⟩
  · refine ⟨e + w, es.trans (if_neg q), not_lt.mp q, by omega, ?_⟩
    rcases h3 with h3 | h3
    · exact Or.inl (by rw [show e + w + w = e + 2 * w by ring]; exact h3)
    · exact Or.inr (by omega)

theorem expField_found (v : EReal) (hv : 0 ≤ v) :
    ∃ e, expField v = BitVec.ofNat 32 (e * 8388608) ∧ Found v e 1 := by
  have h0 : Found v 0 (2 * 128) := ⟨by rw [fieldVal_zero]; exact hv, by omega, Or.inr rfl⟩
  obtain ⟨e1, q1, f1⟩ := step_found v 0 128 (by norm_num) h0
  obtain ⟨e2, q2, f2⟩ := step_found v e1 64 (by norm_num) f1
  obtain ⟨e3, q3, f3⟩ := step_found v e2 32 (by norm_num) f2
  obtain ⟨e4, q4, f4⟩ := step_found v e3 16 (by norm_num) f3
  obtain ⟨e5, q5, f5⟩ := step_found v e4 8 (by norm_num) f4
  obtain ⟨e6, q6, f6⟩ := step_found v e5 4 (by norm_num) f5
  obtain ⟨e7, q7, f7⟩ := step_found v e6 2 (by norm_num) f6
  obtain ⟨e8, q8, f8⟩ := step_found v e7 1 (by norm_num) f7
  refine ⟨e8, ?_, f8⟩
  unfold expField
  rw [← q8, ← q7, ← q6, ← q5, ← q4, ← q3, ← q2, ← q1]

/-- The exponent of a group's scale, as the mathematics writes it. -/
noncomputable def eRef (a : EReal) : EReal :=
  if a = 0 then 0 else
    max (Ideal.liftRound (fun r => ⌊r⌋) (Ideal.div (Ideal.log (vOf a)) (Ideal.log (Ideal.ofBits .f32 0x40000000#32))) + 1)
      (Ideal.ofBits .f32 0xC2FC0000#32)

theorem two_f32 : Ideal.ofBits .f32 0x40000000#32 = ((2 : ℝ) : EReal) := by
  simp [Ideal.ofBits, Ideal.ieee]
  norm_cast
  norm_num

theorem m126_f32 : Ideal.ofBits .f32 0xC2FC0000#32 = ((-126 : ℝ) : EReal) := by
  simp [Ideal.ofBits, Ideal.ieee]
  norm_cast
  norm_num

theorem inv448 : ∃ r : ℝ, Ideal.ofBits .f32 0x3B124925#32 = (r : EReal) ∧ 0 < r ∧ r < 1 / 256 := by
  refine ⟨(2 ^ 23 + 1198373 : ℕ) * (2 : ℝ) ^ (-32 : ℤ), ?_, by positivity, by norm_num⟩
  simp [Ideal.ofBits, Ideal.ieee]

/-- The exponents: the field found plus one is the biased exponent of the mathematics. -/
theorem exponent (a : ℝ) (h0 : 0 ≤ a) (hb : a ≤ 2 ^ 132) :
    ∃ k : ℕ, 1 ≤ k ∧ k ≤ 251 ∧ sbOf (a : EReal) (vOf (a : EReal)) = BitVec.ofNat 32 (k * 8388608)
      ∧ eRef (a : EReal) = ((((k : ℤ) - 127 : ℤ) : ℝ) : EReal) := by
  by_cases ha : a = 0
  · subst ha
    refine ⟨127, by omega, by omega, ?_, ?_⟩
    · have : FloatOps.cmpf (F := Ideal) (φ := .f32) .oeq ((0 : ℝ) : EReal) (FloatOps.ofBits .f32 0x00000000#32) = 1#1 := by
        refine congrArg BitVec.ofBool (decide_eq_true ?_)
        show ((0 : ℝ) : EReal) = Ideal.ofBits .f32 0x00000000#32
        simp [Ideal.ofBits, Ideal.ieee]
      unfold sbOf
      rw [this]; rfl
    · unfold eRef
      rw [if_pos (by norm_num)]
      norm_num
  · obtain ⟨q, hq, q0, q1⟩ := inv448
    have hv : vOf (a : EReal) = ((a * q : ℝ) : EReal) := by
      show (a : EReal) * Ideal.ofBits .f32 0x3B124925#32 = _
      rw [hq, EReal.coe_mul]
    have ap : 0 < a := lt_of_le_of_ne h0 (Ne.symm ha)
    have vp : 0 < a * q := mul_pos ap q0
    have vb : a * q < 2 ^ 124 := by
      calc a * q ≤ 2 ^ 132 * q := by gcongr
        _ < 2 ^ 132 * (1 / 256) := by gcongr
        _ = 2 ^ 124 := by norm_num
    obtain ⟨e, he, f1, f2, f3⟩ := expField_found (vOf (a : EReal)) (by rw [hv]; exact_mod_cast vp.le)
    rw [hv] at f1 f3
    have e255 : e ≠ 255 := by
      rintro rfl
      rw [fieldVal_top] at f1
      exact absurd (top_le_iff.mp f1) (EReal.coe_ne_top _)
    have e251 : e < 251 := by
      by_contra hc
      rw [fieldVal_pos e (by omega) (by omega), EReal.coe_le_coe_iff] at f1
      have : (2 : ℝ) ^ (124 : ℤ) ≤ (2 : ℝ) ^ ((e : ℤ) - 127) := zpow_le_zpow_right₀ (by norm_num) (by omega)
      have h2 : (2 : ℝ) ^ (124 : ℤ) = 2 ^ 124 := by norm_cast
      linarith
    have fu : a * q < (2 : ℝ) ^ ((e : ℤ) - 126) := by
      rcases f3 with f3 | f3
      · rw [fieldVal_pos (e + 1) (by omega) (by omega), EReal.coe_lt_coe_iff] at f3
        rw [show ((e : ℤ) - 126) = ((e + 1 : ℕ) : ℤ) - 127 by push_cast; ring]
        exact f3
      · omega
    refine ⟨e + 1, by omega, by omega, ?_, ?_⟩
    · have : FloatOps.cmpf (F := Ideal) (φ := .f32) .oeq (a : EReal) (FloatOps.ofBits .f32 0x00000000#32) = 0#1 := by
        refine congrArg BitVec.ofBool (decide_eq_false ?_)
        show ¬ (a : EReal) = Ideal.ofBits .f32 0x00000000#32
        simp [Ideal.ofBits, Ideal.ieee, ha]
      unfold sbOf
      rw [this, he]
      show BitVec.ofNat 32 (e * 8388608) + BitVec.ofNat 32 8388608 = _
      rw [← BitVec.ofNat_add, show e * 8388608 + 8388608 = (e + 1) * 8388608 by ring]
    · unfold eRef
      rw [if_neg (by exact_mod_cast ha), hv, two_f32, m126_f32]
      have l2 : (0 : ℝ) < Real.log 2 := Real.log_pos (by norm_num)
      have hl : Ideal.div (Ideal.log ((a * q : ℝ) : EReal)) (Ideal.log ((2 : ℝ) : EReal)) = ((Real.log (a * q) / Real.log 2 : ℝ) : EReal) := by
        show Ideal.div (if a * q ≤ 0 then ⊥ else (Real.log (a * q) : EReal)) (if (2 : ℝ) ≤ 0 then ⊥ else (Real.log 2 : EReal)) = _
        rw [if_neg (not_le.mpr vp), if_neg (by norm_num)]
        unfold Ideal.div
        rw [if_neg (by exact_mod_cast l2.ne'), ← EReal.coe_inv, ← EReal.coe_mul, div_eq_mul_inv]
      rw [hl]
      show max ((((⌊Real.log (a * q) / Real.log 2⌋ : ℤ) : ℝ) : EReal) + 1) ((-126 : ℝ) : EReal) = _
      have up : Real.log (a * q) / Real.log 2 < ((e : ℤ) - 126 : ℤ) := by
        rw [div_lt_iff₀ l2, ← Real.log_zpow]
        exact Real.log_lt_log vp fu
      rw [show (1 : EReal) = ((1 : ℝ) : EReal) from rfl, ← EReal.coe_add, ← EReal.coe_strictMono.monotone.map_max]
      congr 1
      by_cases ez : e = 0
      · subst ez
        have : ⌊Real.log (a * q) / Real.log 2⌋ < -126 := Int.floor_lt.mpr (by simpa using up)
        have h2 : ((⌊Real.log (a * q) / Real.log 2⌋ : ℤ) : ℝ) + 1 ≤ -126 := by
          have : ⌊Real.log (a * q) / Real.log 2⌋ + 1 ≤ -126 := by omega
          exact_mod_cast this
        rw [max_eq_right h2]
        norm_num
      · have lo : ((e : ℤ) - 127 : ℤ) ≤ Real.log (a * q) / Real.log 2 := by
          rw [le_div_iff₀ l2, ← Real.log_zpow]
          rw [fieldVal_pos e (by omega) (by omega), EReal.coe_le_coe_iff] at f1
          exact Real.log_le_log (by positivity) f1
        have hf : ⌊Real.log (a * q) / Real.log 2⌋ = (e : ℤ) - 127 := by
          rw [Int.floor_eq_iff]
          refine ⟨lo, lt_of_lt_of_le up (le_of_eq ?_)⟩
          push_cast; ring
        rw [hf, max_eq_left]
        · push_cast; ring
        · push_cast
          have : (1 : ℝ) ≤ e := by exact_mod_cast Nat.one_le_iff_ne_zero.mpr ez
          linarith

theorem pow_two_int (z : ℤ) : Ideal.pow (Ideal.ofBits .f32 0x40000000#32) (((z : ℝ)) : EReal) = (((2 : ℝ) ^ z : ℝ) : EReal) := by
  rw [two_f32]
  show ((Real.rpow 2 (z : ℝ) : ℝ) : EReal) = _
  exact congrArg _ (Real.rpow_intCast 2 z)

/-- The scale is the power of two of the mathematics' exponent. -/
theorem scaleOf_eq (a : ℝ) (h0 : 0 ≤ a) (hb : a ≤ 2 ^ 132) :
    scaleOf (a : EReal) = Ideal.pow (Ideal.ofBits .f32 0x40000000#32) (eRef (a : EReal)) := by
  obtain ⟨k, k1, k2, hs, he⟩ := exponent a h0 hb
  rw [he, pow_two_int]
  unfold scaleOf
  rw [hs]
  exact fieldVal_pos k k1 (by omega)

/-- The inverse scale is the power of two of the opposite exponent. -/
theorem invOf_eq (a : ℝ) (h0 : 0 ≤ a) (hb : a ≤ 2 ^ 132) :
    invOf (a : EReal) = Ideal.pow (Ideal.ofBits .f32 0x40000000#32) (- eRef (a : EReal)) := by
  obtain ⟨k, k1, k2, hs, he⟩ := exponent a h0 hb
  have : - ((((k : ℤ) - 127 : ℤ) : ℝ) : EReal) = (((127 - (k : ℤ) : ℤ) : ℝ) : EReal) := by
    rw [← EReal.coe_neg]; congr 1; push_cast; ring
  rw [he, this, pow_two_int]
  unfold invOf
  rw [hs]
  have e : IntOp.subi 2130706432#32 (BitVec.ofNat 32 (k * 8388608)) = BitVec.ofNat 32 ((254 - k) * 8388608) := by
    show 2130706432#32 - BitVec.ofNat 32 (k * 8388608) = _
    apply BitVec.eq_of_toNat_eq
    rw [BitVec.toNat_sub, BitVec.toNat_ofNat, BitVec.toNat_ofNat, BitVec.toNat_ofNat]
    omega
  rw [e]
  refine (fieldVal_pos (254 - k) (by omega) (by omega)).trans ?_
  rw [show (((254 - k : ℕ) : ℤ) - 127) = 127 - (k : ℤ) by omega]

end Cert.Val

end
-- ==== Proof.Value.Norm.lean ====
module

public import proofs.«01_k».proof.Proof.Value.Exponent

/-!
# The normalised features are finite and bounded

Whatever the features are, infinite ones included, a normalised feature times a bounded gain is a real number of magnitude
at most sixteen times the gain's bound, and so is the largest magnitude of a group.
-/

@[expose] public section

namespace Cert.Val
open Idealize Idealize.ShloMosaic

theorem inv256 : Ideal.ofBits .f32 998244352#32 = ((1 / 256 : ℝ) : EReal) := by
  simp [Ideal.ofBits, Ideal.ieee]
  norm_cast
  norm_num

theorem eps_pos : ∃ r : ℝ, Ideal.ofBits .f32 897988541#32 = (r : EReal) ∧ 0 < r := by
  refine ⟨(2 ^ 23 + 407485 : ℕ) * (2 : ℝ) ^ (-43 : ℤ), ?_, by positivity⟩
  simp [Ideal.ofBits, Ideal.ieee]

theorem coe_sum' (f : Fin 256 → ℝ) : ((∑ x, f x : ℝ) : EReal) = ∑ x, (f x : EReal) := by
  induction (Finset.univ : Finset (Fin 256)) using Finset.induction_on with
  | empty => simp
  | insert a s ha ih => rw [Finset.sum_insert ha, Finset.sum_insert ha, EReal.coe_add, ih]

theorem sq_nonneg' (x : EReal) : 0 ≤ x * x := by
  induction x with
  | bot => simp
  | top => simp
  | coe r => exact_mod_cast mul_self_nonneg r

theorem sum_sq_top (col : Fin 256 → EReal) (d : Fin 256) (h : col d * col d = ⊤) : (∑ x, col x * col x) = ⊤ := by
  refine top_le_iff.mp ?_
  rw [← h]
  exact Finset.single_le_sum (f := fun x => col x * col x) (fun i _ => sq_nonneg' _) (Finset.mem_univ d)

theorem rsOf_top (col : Fin 256 → EReal) (d : Fin 256) (h : col d * col d = ⊤) : rsOf col = 0 := by
  unfold rsOf
  obtain ⟨r, hr, _⟩ := eps_pos
  rw [sum_sq_top col d h, inv256, hr, EReal.top_mul_coe_of_pos (by norm_num), EReal.top_add_coe]
  rfl

/-- A normalised feature is a real number of magnitude at most 16. -/
theorem norm_bound (col : Fin 256 → EReal) (d : Fin 256) : ∃ r : ℝ, col d * rsOf col = (r : EReal) ∧ |r| ≤ 16 := by
  by_cases h : ∃ x, col x * col x = ⊤
  · obtain ⟨x, hx⟩ := h
    exact ⟨0, by rw [rsOf_top col x hx, mul_zero]; rfl, by norm_num⟩
  · have hre : ∀ x, ∃ r : ℝ, col x = (r : EReal) := by
      intro x
      have hx : ¬ col x * col x = ⊤ := fun q => h ⟨x, q⟩
      revert hx
      induction col x with
      | bot => intro hx; exact absurd (by simp) hx
      | top => intro hx; exact absurd (by simp) hx
      | coe r => intro _; exact ⟨r, rfl⟩
    choose f hf using hre
    obtain ⟨ε, hε, ε0⟩ := eps_pos
    have hs : (∑ x, col x * col x) = ((∑ x, f x * f x : ℝ) : EReal) := by
      rw [coe_sum']
      exact Finset.sum_congr rfl fun x _ => by rw [hf, EReal.coe_mul]
    have s0 : 0 ≤ ∑ x, f x * f x := Finset.sum_nonneg fun x _ => mul_self_nonneg _
    have sd : f d * f d ≤ ∑ x, f x * f x :=
      Finset.single_le_sum (f := fun x => f x * f x) (fun i _ => mul_self_nonneg _) (Finset.mem_univ d)
    have wp : 0 < (∑ x, f x * f x) * (1 / 256) + ε := by positivity
    have hr : rsOf col = (((Real.sqrt ((∑ x, f x * f x) * (1 / 256) + ε))⁻¹ : ℝ) : EReal) := by
      unfold rsOf
      rw [hs, inv256, hε, ← EReal.coe_mul, ← EReal.coe_add]
      show (if _ < (0 : ℝ) then ⊥ else if _ = (0 : ℝ) then ⊤ else _) = _
      rw [if_neg (not_lt.mpr wp.le), if_neg wp.ne']
    refine ⟨f d * (Real.sqrt ((∑ x, f x * f x) * (1 / 256) + ε))⁻¹, by rw [hr, hf, EReal.coe_mul], ?_⟩
    rw [abs_mul, abs_inv, abs_of_nonneg (Real.sqrt_nonneg _), ← div_eq_mul_inv, div_le_iff₀ (Real.sqrt_pos.mpr wp)]
    apply abs_le_of_sq_le_sq
    · rw [mul_pow, Real.sq_sqrt wp.le]
      nlinarith
    · positivity

/-- A scaled feature is a real number of magnitude at most `2 ^ 132`. -/
theorem y_bound (col gm : Fin 256 → EReal) (hg : ∀ d, ∃ r : ℝ, gm d = (r : EReal) ∧ |r| ≤ 2 ^ 128) (d : Fin 256) :
    ∃ r : ℝ, yOf col gm d = (r : EReal) ∧ |r| ≤ 2 ^ 132 := by
  obtain ⟨r, hr, hr'⟩ := norm_bound col d
  obtain ⟨g, hg, hg'⟩ := hg d
  refine ⟨r * g, by unfold yOf; rw [hr, hg, EReal.coe_mul], ?_⟩
  rw [abs_mul]
  calc |r| * |g| ≤ 16 * 2 ^ 128 := by gcongr
    _ = 2 ^ 132 := by norm_num

/-- The largest magnitude of a group is a real number between 0 and `2 ^ 132`. -/
theorem a_bound (y : Fin 256 → EReal) (hy : ∀ d, ∃ r : ℝ, y d = (r : EReal) ∧ |r| ≤ 2 ^ 132) (g : Fin 2) :
    ∃ a : ℝ, aOf y g = (a : EReal) ∧ 0 ≤ a ∧ a ≤ 2 ^ 132 := by
  have hb : ∀ d, 0 ≤ FloatOps.absf (F := Ideal) (φ := .f32) (y d) ∧ FloatOps.absf (F := Ideal) (φ := .f32) (y d) ≤ ((2 ^ 132 : ℝ) : EReal) := by
    intro d
    obtain ⟨r, hr, hr'⟩ := hy d
    rw [hr]
    have : FloatOps.absf (F := Ideal) (φ := .f32) (r : EReal) = ((|r| : ℝ) : EReal) := by
      show max (r : EReal) (-(r : EReal)) = _
      rw [← EReal.coe_neg, ← EReal.coe_strictMono.monotone.map_max]; rfl
    rw [this]
    exact ⟨by exact_mod_cast abs_nonneg r, by exact_mod_cast hr'⟩
  have bot : Ideal.ofBits .f32 4286578688#32 = ⊥ := by simp [Ideal.ofBits, Ideal.ieee]
  have lo : 0 ≤ aOf y g := (Finset.le_fold_max _).mpr (Or.inr ⟨0, Finset.mem_univ _, (hb _).1⟩)
  have up : aOf y g ≤ ((2 ^ 132 : ℝ) : EReal) := by
    unfold aOf
    rw [Finset.fold_max_le, bot]
    exact ⟨bot_le, fun x _ => (hb _).2⟩
  revert lo up
  induction aOf y g with
  | bot => intro lo; exact absurd lo (by simp)
  | top => intro _ up; exact absurd (top_le_iff.mp up) (EReal.coe_ne_top _)
  | coe a => intro lo up; exact ⟨a, rfl, by exact_mod_cast lo, EReal.coe_le_coe_iff.mp up⟩

end Cert.Val

end
-- ==== Proof.KernelIdeal.Host.lean ====
module

public import proofs.«01_k».proof.Proof.KernelIdeal.State
public import proofs.«01_k».proof.Proof.Value.Norm
public import Idealize.ShloMosaic.Lib.StableHlo.ReadAt

/-!
# What the kernel's own host operations hand to the blocks
-/

@[expose] public section

namespace Cert.KernelIdeal.Hand
open Idealize Idealize.ShloMosaic Idealize.ShloMosaic.Tactic Idealize.ShloMosaic.TcCoe Cert.KernelIdeal Cert.KernelIdeal.Gen Cert.Val

set_option maxRecDepth 16384

variable (m : (ℓ : Loc nD τ sig) → Buf (Elt Ideal) ℓ) (c : Dev nD)

/-- The features, their last two dimensions exchanged. -/
theorem V_v13 (b : Fin 5) (d : Fin 320) (n : Fin 16384) :
    (V m c main_v13 : Vec Ideal S5x320x16384 .bf16) (ix3 b d n) = (m ((c : Thread nD τ).loc main_arg0) : Vec Ideal S5x16384x320 .bf16) (ix3 b n d) := by
  unfold V
  simp only [hostOps0, hostOps0_1, hostOps0_2, List.flatten_cons, List.flatten_nil, List.append_nil, List.cons_append, List.nil_append]
  after_reads_at

theorem V_v14 (d : Fin 256) :
    (V m c main_v14 : Vec Ideal S1x256 .f32) (ix2 0 d) = (m ((c : Thread nD τ).loc main_arg1) : Vec Ideal S256 .f32) (ix1 d) := by
  unfold V
  simp only [hostOps0, hostOps0_1, hostOps0_2, List.flatten_cons, List.flatten_nil, List.append_nil, List.cons_append, List.nil_append]
  after_reads_at

/-- The frequency of the pair `r`, as the program computes it. -/
noncomputable def freqE (r : Fin 32) : EReal :=
  Ideal.div 1 (Ideal.pow (Ideal.ofBits .f32 1176256512#32)
    (Ideal.div (Ideal.ofBits .f32 1073741824#32 * FloatOps.sitofp (F := Ideal) .f32 (BitVec.ofNat 32 r.val)) (Ideal.ofBits .f32 1115684864#32)))

/-- The frequency of the pair `r`. -/
noncomputable def freqR (r : Fin 32) : ℝ := ((10000 : ℝ) ^ ((2 * (r.val : ℝ)) * (64 : ℝ)⁻¹))⁻¹

theorem freq_eq (r : Fin 32) : freqE r = ((freqR r : ℝ) : EReal) := by
  have e1 : Ideal.ofBits .f32 1176256512#32 = ((10000 : ℝ) : EReal) := by
    simp [Ideal.ofBits, Ideal.ieee]
    norm_cast
    norm_num
  have e2 : Ideal.ofBits .f32 1115684864#32 = ((64 : ℝ) : EReal) := by
    simp [Ideal.ofBits, Ideal.ieee]
    norm_cast
    norm_num
  have e3 : FloatOps.sitofp (F := Ideal) .f32 (BitVec.ofNat 32 r.val) = (((r.val : ℝ)) : EReal) := by
    show (((BitVec.ofNat 32 r.val).toInt : ℝ) : EReal) = _
    have : (BitVec.ofNat 32 r.val).toInt = (r.val : ℤ) := by
      rw [BitVec.toInt_eq_toNat_cond, BitVec.toNat_ofNat]; omega
    rw [this]; rfl
  have hd : ∀ x y : ℝ, y ≠ 0 → Ideal.div (x : EReal) (y : EReal) = ((x * y⁻¹ : ℝ) : EReal) := by
    intro x y hy
    unfold Ideal.div
    rw [if_neg (by exact_mod_cast hy), ← EReal.coe_inv, ← EReal.coe_mul]
  unfold freqE
  rw [e1, e2, e3, two_f32, ← EReal.coe_mul, hd _ _ (by norm_num)]
  show Ideal.div ((1 : ℝ) : EReal) ((Real.rpow 10000 (2 * (r.val : ℝ) * 64⁻¹) : ℝ) : EReal) = _
  exact (hd 1 (Real.rpow 10000 (2 * (r.val : ℝ) * 64⁻¹)) (Real.rpow_pos_of_pos (by norm_num) _).ne').trans (by rw [one_mul]; rfl)

theorem V_v12 (r : Fin 32) :
    (V m c main_v12 : Vec Ideal S1x128 .f32) (ix2 0 (⟨r.val, Nat.lt_trans r.isLt (by decide)⟩ : Fin 128)) = (freqR r : EReal) := by
  rw [← freq_eq]
  unfold V freqE
  simp only [hostOps0, hostOps0_1, hostOps0_2, List.flatten_cons, List.flatten_nil, List.append_nil, List.cons_append, List.nil_append]
  after_reads_at

end Cert.KernelIdeal.Hand

end
-- ==== Proof.KernelIdeal.Final.lean ====
module

public import proofs.«01_k».proof.Proof.KernelIdeal.State
public import proofs.«01_k».proof.Proof.KernelIdeal.Host
public import proofs.«01_k».proof.Proof.KernelIdeal.Frame

/-!
# What the result arrays hold at the end, over the extended reals

A block of an array is its tile of one batch row: the block's index says where its elements lie in the array.
-/

@[expose] public section

namespace Cert.KernelIdeal.Hand
open Idealize Idealize.ShloMosaic Idealize.ShloMosaic.Tactic Idealize.ShloMosaic.TcCoe Cert.KernelIdeal Cert.KernelIdeal.Gen Cert.Val

set_option maxRecDepth 16384

variable (m : (ℓ : Loc nD τ sig) → Buf (Elt Ideal) ℓ) (hO : Ok m) (c : Dev nD)

/-- The block indices of the windows whose block is a tile of one batch row. -/
theorem tile_index : ∀ t : Fin 40, (cc0_transform_0 (grid0.coords t) = ![t.val / 8, 0, t.val % 8])
    ∧ (cc0_transform_3 (grid0.coords t) = ![t.val / 8, 0, t.val % 8])
    ∧ (cc0_transform_4 (grid0.coords t) = ![t.val / 8, t.val % 8, 0])
    ∧ (cc0_transform_5 (grid0.coords t) = ![t.val / 8, 0, t.val % 8]) := by decide +kernel

/-- The batch row of a point. -/
abbrev rowOf (t : Fin 40) : Fin 5 := ⟨t.val / 8, by omega⟩

/-- The token of a point's tile. -/
abbrev tokOf (t : Fin 40) (n : Fin 2048) : Fin 16384 := ⟨2048 * (t.val % 8) + n.val, by omega⟩

/-- The block of features at a point. -/
theorem iblk0_at (t : Fin (cfgM m hO).N) (d : Fin 320) (n : Fin 2048) :
    (iblk m hO c 0 t : Vec Ideal S1x320x2048 .bf16) (ix3 0 d n)
      = (V m c main_v13 : Vec Ideal S5x320x16384 .bf16) (ix3 (rowOf t) d (tokOf t n)) := by
  refine congrArg (V m c main_v13 : Vec Ideal S5x320x16384 .bf16) (a₁ := (((cfgM m hO).win 0).blk t).view.emb (ix3 (0 : Fin 1) d n)) (funext fun a => Fin.ext ?_)
  refine (Pipeline.Window.rect_emb_val ((cfgM m hO).win 0) t (ix3 (0 : Fin 1) d n) a).trans ?_
  have h : ((cfgM m hO).win 0).index t = ![t.val / 8, 0, t.val % 8] := (tile_index t).1
  rw [h]
  fin_cases a
  · show t.val / 8 * 1 + 0 = t.val / 8; omega
  · show 0 * 320 + d.val = d.val; omega
  · show t.val % 8 * 2048 + n.val = 2048 * (t.val % 8) + n.val; omega

/-- The block of gains at a point: all of them. -/
theorem iblk1_at (t : Fin (cfgM m hO).N) (d : Fin 256) :
    (iblk m hO c 1 t : Vec Ideal S1x256 .f32) (ix2 0 d) = (V m c main_v14 : Vec Ideal S1x256 .f32) (ix2 0 d) := by
  refine congrArg (V m c main_v14 : Vec Ideal S1x256 .f32) (a₁ := (((cfgM m hO).win 1).blk t).view.emb (ix2 (0 : Fin 1) d)) (funext fun a => Fin.ext ?_)
  refine (Pipeline.Window.rect_emb_val ((cfgM m hO).win 1) t (ix2 (0 : Fin 1) d) a).trans ?_
  have h : ((cfgM m hO).win 1).index t = ![0, 0] := rfl
  rw [h]
  fin_cases a
  · rfl
  · show 0 * 256 + d.val = d.val; omega

/-- The block of frequencies at a point: all of them. -/
theorem iblk2_at (t : Fin (cfgM m hO).N) (d : Fin 128) :
    (iblk m hO c 2 t : Vec Ideal S1x128 .f32) (ix2 0 d) = (V m c main_v12 : Vec Ideal S1x128 .f32) (ix2 0 d) := by
  refine congrArg (V m c main_v12 : Vec Ideal S1x128 .f32) (a₁ := (((cfgM m hO).win 2).blk t).view.emb (ix2 (0 : Fin 1) d)) (funext fun a => Fin.ext ?_)
  refine (Pipeline.Window.rect_emb_val ((cfgM m hO).win 2) t (ix2 (0 : Fin 1) d) a).trans ?_
  have h : ((cfgM m hO).win 2).index t = ![0, 0] := rfl
  rw [h]
  fin_cases a
  · rfl
  · show 0 * 128 + d.val = d.val; omega

/-- Distinct points write distinct tiles. -/
theorem tile_inj : ∀ t t' : Fin 40, (cc0_transform_3 (grid0.coords t) = cc0_transform_3 (grid0.coords t') → t = t')
    ∧ (cc0_transform_4 (grid0.coords t) = cc0_transform_4 (grid0.coords t') → t = t')
    ∧ (cc0_transform_5 (grid0.coords t) = cc0_transform_5 (grid0.coords t') → t = t') := by
  intro t t'
  obtain ⟨-, h3, h4, h5⟩ := tile_index t
  obtain ⟨-, k3, k4, k5⟩ := tile_index t'
  refine ⟨fun h => ?_, fun h => ?_, fun h => ?_⟩
  · rw [h3, k3] at h
    have e0 : t.val / 8 = t'.val / 8 := congrFun h 0
    have e1 : t.val % 8 = t'.val % 8 := congrFun h 2
    exact Fin.ext (by omega)
  · rw [h4, k4] at h
    have e0 : t.val / 8 = t'.val / 8 := congrFun h 0
    have e1 : t.val % 8 = t'.val % 8 := congrFun h 1
    exact Fin.ext (by omega)
  · rw [h5, k5] at h
    have e0 : t.val / 8 = t'.val / 8 := congrFun h 0
    have e1 : t.val % 8 = t'.val % 8 := congrFun h 2
    exact Fin.ext (by omega)

/-- The array of turned features at the end. -/
theorem arr3_at (t : Fin (cfgM m hO).N) (r : Fin 64) (n : Fin 2048) :
    ((dats m hO 0 c).arrAt 3 (cfgM m hO).N : Vec Ideal S5x64x16384 .bf16) (ix3 (rowOf t) r (tokOf t n))
      = (outsAt0 m hO c t.val t.isLt).1 (ix3 0 r n) := by
  have e := (dats m hO 0 c).arrAt_emb_eq_flushed 3
    (fun t t' _ _ hne => ((cfgM m hO).win 3).disjoint_blk fun h => hne ((tile_inj t t').1 h)) t (flush0_3 (adm m hO) t) (ix3 (0 : Fin 1) r n)
  have e2 : (dats m hO 0 c).flushed 3 t = (outsAt0 m hO c t.val t.isLt).1 := after0_3 m hO c t
  rw [e2] at e
  refine Eq.trans (congrArg ((dats m hO 0 c).arrAt 3 (cfgM m hO).N : Vec Ideal S5x64x16384 .bf16) (funext fun a => Fin.ext ?_)) e
  refine Eq.symm ((Pipeline.Window.rect_emb_val ((cfgM m hO).win 3) t (ix3 (0 : Fin 1) r n) a).trans ?_)
  have h : ((cfgM m hO).win 3).index t = ![t.val / 8, 0, t.val % 8] := (tile_index t).2.1
  rw [h]
  fin_cases a
  · show t.val / 8 * 1 + 0 = t.val / 8; omega
  · show 0 * 64 + r.val = r.val; omega
  · show t.val % 8 * 2048 + n.val = 2048 * (t.val % 8) + n.val; omega

/-- The array of codes at the end. -/
theorem arr4_at (t : Fin (cfgM m hO).N) (n : Fin 2048) (d : Fin 256) :
    (dats m hO 0 c).arrAt 4 (cfgM m hO).N (ix3 (rowOf t) (tokOf t n) d : S5x16384x256.Idx)
      = (outsAt0 m hO c t.val t.isLt).2.1 (ix3 0 n d) := by
  have e := (dats m hO 0 c).arrAt_emb_eq_flushed 4
    (fun t t' _ _ hne => ((cfgM m hO).win 4).disjoint_blk fun h => hne ((tile_inj t t').2.1 h)) t (flush0_4 (adm m hO) t) (ix3 (0 : Fin 1) n d)
  have e2 : (dats m hO 0 c).flushed 4 t = (outsAt0 m hO c t.val t.isLt).2.1 := after0_4 m hO c t
  rw [e2] at e
  refine Eq.trans (congrArg ((dats m hO 0 c).arrAt 4 (cfgM m hO).N) (funext fun a => Fin.ext ?_)) e
  refine Eq.symm ((Pipeline.Window.rect_emb_val ((cfgM m hO).win 4) t (ix3 (0 : Fin 1) n d) a).trans ?_)
  have h : ((cfgM m hO).win 4).index t = ![t.val / 8, t.val % 8, 0] := (tile_index t).2.2.1
  rw [h]
  fin_cases a
  · show t.val / 8 * 1 + 0 = t.val / 8; omega
  · show t.val % 8 * 2048 + n.val = 2048 * (t.val % 8) + n.val; omega
  · show 0 * 256 + d.val = d.val; omega

/-- The array of scales at the end. -/
theorem arr5_at (t : Fin (cfgM m hO).N) (g : Fin 2) (n : Fin 2048) :
    ((dats m hO 0 c).arrAt 5 (cfgM m hO).N : Vec Ideal S5x2x16384 .f32) (ix3 (rowOf t) g (tokOf t n))
      = (outsAt0 m hO c t.val t.isLt).2.2.1 (ix3 0 g n) := by
  have e := (dats m hO 0 c).arrAt_emb_eq_flushed 5
    (fun t t' _ _ hne => ((cfgM m hO).win 5).disjoint_blk fun h => hne ((tile_inj t t').2.2 h)) t (flush0_5 (adm m hO) t) (ix3 (0 : Fin 1) g n)
  have e2 : (dats m hO 0 c).flushed 5 t = (outsAt0 m hO c t.val t.isLt).2.2.1 := after0_5 m hO c t
  rw [e2] at e
  refine Eq.trans (congrArg ((dats m hO 0 c).arrAt 5 (cfgM m hO).N : Vec Ideal S5x2x16384 .f32) (funext fun a => Fin.ext ?_)) e
  refine Eq.symm ((Pipeline.Window.rect_emb_val ((cfgM m hO).win 5) t (ix3 (0 : Fin 1) g n) a).trans ?_)
  have h : ((cfgM m hO).win 5).index t = ![t.val / 8, 0, t.val % 8] := (tile_index t).2.2.2
  rw [h]
  fin_cases a
  · show t.val / 8 * 1 + 0 = t.val / 8; omega
  · show 0 * 2 + g.val = g.val; omega
  · show t.val % 8 * 2048 + n.val = 2048 * (t.val % 8) + n.val; omega

/-- The offset of a batch row. -/
def posK (k : ℕ) : BitVec 32 := if h : k < 5 then (m ((c : Thread nD τ).loc main_arg2) : IVec S5 32) (ix1 ⟨k, h⟩) else 0#32

/-- The table's word at a point is the offset of the point's batch row. -/
theorem word_A (i : grid0.Coords) (hc1) : kernelRun0_A.sl.r_2 (F := Ideal) c i hc1 (tbl m 0) = posK m c (i 0).val := by
  have hi : (i 0).val < 5 := (i 0).isLt
  obtain rfl : c = 0 := Subsingleton.elim _ _
  unfold posK kernelRun0_A.sl.r_2
  rw [dif_pos hi]
  refine Eq.trans (congrFun (V_main_arg2 m 0) _) ?_
  refine congrArg (m (((0 : Dev nD) : Thread nD τ).loc main_arg2) : IVec S5 32) (funext fun a => Fin.ext ?_)
  fin_cases a
  show k0_off1 i 0 + 1 * 0 = (i 0).val
  rw [k0_off1_eq]
  rfl

/-- The same word, as the points that begin a batch row read it. -/
theorem word_C (i : grid0.Coords) (hc1) : kernelRun0_C.sl.r (F := Ideal) c i hc1 (tbl m 0) = posK m c (i 0).val := by
  have hi : (i 0).val < 5 := (i 0).isLt
  obtain rfl : c = 0 := Subsingleton.elim _ _
  unfold posK kernelRun0_C.sl.r
  rw [dif_pos hi]
  refine Eq.trans (congrFun (V_main_arg2 m 0) _) ?_
  refine congrArg (m (((0 : Dev nD) : Thread nD τ).loc main_arg2) : IVec S5 32) (funext fun a => Fin.ext ?_)
  fin_cases a
  show k0_off1 i 0 + 1 * 0 = (i 0).val
  rw [k0_off1_eq]
  rfl

end Cert.KernelIdeal.Hand

end
-- ==== Proof.KernelIdeal.Arrays.lean ====
module

public import proofs.«01_k».proof.Proof.KernelIdeal.Final

/-!
# The result arrays of the kernel, as functions of its arguments
-/

@[expose] public section

namespace Cert.KernelIdeal.Hand
open Idealize Idealize.ShloMosaic Idealize.ShloMosaic.Tactic Idealize.ShloMosaic.TcCoe Cert.KernelIdeal Cert.KernelIdeal.Gen Cert.Val

set_option maxRecDepth 16384

variable (m : (ℓ : Loc nD τ sig) → Buf (Elt Ideal) ℓ) (hO : Ok m) (c : Dev nD)

/-- A feature of a token. -/
noncomputable def argK (b : Fin 5) (n : Fin 16384) (d : Fin 320) : EReal :=
  (m ((c : Thread nD τ).loc main_arg0) : Vec Ideal S5x16384x320 .bf16) (ix3 b n d)

/-- The normalised features' inputs of a token. -/
noncomputable def colK (b : Fin 5) (n : Fin 16384) (d : Fin 256) : EReal := argK m c b n ⟨d.val, by omega⟩

/-- The gains. -/
noncomputable def gmK (d : Fin 256) : EReal := (m ((c : Thread nD τ).loc main_arg1) : Vec Ideal S256 .f32) (ix1 d)

/-- The normalised features of a token. -/
noncomputable def yK (b : Fin 5) (n : Fin 16384) (d : Fin 256) : EReal := yOf (colK m c b n) (gmK m c) d

theorem iblk0_arg (t : Fin (cfgM m hO).N) (d : Fin 320) (n : Fin 2048) :
    (iblk m hO c 0 t : Vec Ideal S1x320x2048 .bf16) (ix3 0 d n) = argK m c (rowOf t) (tokOf t n) d :=
  (iblk0_at m hO c t d n).trans (V_v13 m c (rowOf t) d (tokOf t n))

theorem col_at (t : Fin (cfgM m hO).N) (n : Fin 2048) :
    blkCol (iblk m hO c 0 t) n = colK m c (rowOf t) (tokOf t n) :=
  funext fun d => iblk0_arg m hO c t ⟨d.val, by omega⟩ n

variable (hb : ∀ k, k < 5 → (posK m c k).toInt ≤ 2 ^ 31 - 1 - 16383)
include hb

theorem outs (t : Fin (cfgM m hO).N) : Outs m hO c (gmK m c) freqR (posK m c) t.val t.isLt :=
  (points m hO c (gmK m c) freqR (posK m c)
    (fun t d => (iblk1_at m hO c t d).trans (V_v14 m c d))
    (fun t r => (iblk2_at m hO c t _).trans (V_v12 m c r))
    (word_A m c) (word_C m c) hb t.val t.isLt).2

theorem rope_tile (t : Fin (cfgM m hO).N) (r : Fin 64) (n : Fin 2048) :
    ((dats m hO 0 c).arrAt 3 (cfgM m hO).N : Vec Ideal S5x64x16384 .bf16) (ix3 (rowOf t) r (tokOf t n))
      = rotAt (argK m c (rowOf t) (tokOf t n) ⟨256 + 2 * (r.val / 2), by omega⟩)
          (argK m c (rowOf t) (tokOf t n) ⟨256 + 2 * (r.val / 2) + 1, by omega⟩) r
          (angOf freqR ((posK m c (rowOf t).val).toInt : ℝ) ⟨r.val / 2, by omega⟩ (tokOf t n).val) := by
  refine (arr3_at m hO c t r n).trans (((outs m hO c hb t).rope (ix3 0 r n)).trans ?_)
  rw [← iblk0_arg m hO c t, ← iblk0_arg m hO c t]
  rfl

theorem code_tile (t : Fin (cfgM m hO).N) (n : Fin 2048) (d : Fin 256) :
    (dats m hO 0 c).arrAt 4 (cfgM m hO).N (ix3 (rowOf t) (tokOf t n) d : S5x16384x256.Idx)
      = codeOf (yK m c (rowOf t) (tokOf t n) d) (invOf (aOf (yK m c (rowOf t) (tokOf t n)) (grpOf d))) := by
  refine (arr4_at m hO c t n d).trans (((outs m hO c hb t).code (ix3 0 n d)).trans ?_)
  show codeOf (yOf (blkCol (iblk m hO c 0 t) n) (gmK m c) d) (invOf (aOf (yOf (blkCol (iblk m hO c 0 t) n) (gmK m c)) (grpOf d))) = _
  rw [col_at]
  rfl

theorem scale_tile (t : Fin (cfgM m hO).N) (g : Fin 2) (n : Fin 2048) :
    ((dats m hO 0 c).arrAt 5 (cfgM m hO).N : Vec Ideal S5x2x16384 .f32) (ix3 (rowOf t) g (tokOf t n))
      = scaleOf (aOf (yK m c (rowOf t) (tokOf t n)) g) := by
  refine (arr5_at m hO c t g n).trans (((outs m hO c hb t).scale (ix3 0 g n)).trans ?_)
  show scaleOf (aOf (yOf (blkCol (iblk m hO c 0 t) n) (gmK m c)) g) = _
  rw [col_at]
  rfl

omit hb in
/-- Every token lies in a point's tile. -/
theorem tile_of (b : Fin 5) (n : Fin 16384) :
    ∃ (t : Fin 40) (n' : Fin 2048), rowOf t = b ∧ tokOf t n' = n :=
  ⟨⟨8 * b.val + n.val / 2048, by omega⟩, ⟨n.val % 2048, by omega⟩,
    Fin.ext (by show (8 * b.val + n.val / 2048) / 8 = b.val; omega),
    Fin.ext (by show 2048 * ((8 * b.val + n.val / 2048) % 8) + n.val % 2048 = n.val; omega)⟩

/-- The turned features. -/
theorem k_rope (b : Fin 5) (r : Fin 64) (n : Fin 16384) :
    ((dats m hO 0 c).arrAt 3 (cfgM m hO).N : Vec Ideal S5x64x16384 .bf16) (ix3 b r n)
      = rotAt (argK m c b n ⟨256 + 2 * (r.val / 2), by omega⟩) (argK m c b n ⟨256 + 2 * (r.val / 2) + 1, by omega⟩) r
          (angOf freqR ((posK m c b.val).toInt : ℝ) ⟨r.val / 2, by omega⟩ n.val) := by
  obtain ⟨t, n', rfl, rfl⟩ := tile_of b n
  exact rope_tile m hO c hb t r n'

/-- The codes. -/
theorem k_code (b : Fin 5) (n : Fin 16384) (d : Fin 256) :
    (dats m hO 0 c).arrAt 4 (cfgM m hO).N (ix3 b n d : S5x16384x256.Idx)
      = codeOf (yK m c b n d) (invOf (aOf (yK m c b n) (grpOf d))) := by
  obtain ⟨t, n', rfl, rfl⟩ := tile_of b n
  exact code_tile m hO c hb t n' d

/-- The scales. -/
theorem k_scale (b : Fin 5) (g : Fin 2) (n : Fin 16384) :
    ((dats m hO 0 c).arrAt 5 (cfgM m hO).N : Vec Ideal S5x2x16384 .f32) (ix3 b g n) = scaleOf (aOf (yK m c b n) g) := by
  obtain ⟨t, n', rfl, rfl⟩ := tile_of b n
  exact scale_tile m hO c hb t g n'

end Cert.KernelIdeal.Hand

end
-- ==== Proof.ReferenceIdeal.Ops.lean ====
module

public import proofs.«01_k».proof.Proof.Gen.ReferenceIdeal.Value
public import Idealize.ShloMosaic.Lib.StableHlo.ReadAt
public import Idealize.ShloMosaic.Lib.Pointwise

/-!
# The reference's operations, cut into stages
-/

@[expose] public section

noncomputable section
namespace Cert.ReferenceIdeal.Hand
open Idealize Idealize.ShloMosaic Idealize.ShloMosaic.TcCoe Cert.ReferenceIdeal Cert.ReferenceIdeal.Gen

/-- An array of wide numbers at an index. -/
abbrev at32 {s : Shape} (X : Vec Ideal s .f32) (i : s.Idx) : EReal := X i

/-- An array of short numbers at an index. -/
abbrev at16 {s : Shape} (X : Vec Ideal s .bf16) (i : s.Idx) : EReal := X i

/-- The contents of a device's buffers. -/
abbrev Vals := Valuation τ sig (Elt Ideal)

abbrev opsA : List (HloOp τ sig (Elt Ideal)) := hostOps0.take 19
abbrev opsB : List (HloOp τ sig (Elt Ideal)) := (hostOps0.drop 19).take 3
abbrev opsC : List (HloOp τ sig (Elt Ideal)) := hostOps0.drop 22
abbrev opsD : List (HloOp τ sig (Elt Ideal)) := hostOps0_4.take 34
abbrev opsE : List (HloOp τ sig (Elt Ideal)) := (hostOps0_4.drop 34).take 12
abbrev opsF : List (HloOp τ sig (Elt Ideal)) := hostOps0_4.drop 46

theorem after_app (l₁ l₂ : List (HloOp τ sig (Elt Ideal))) (W : Vals) :
    StableHlo.after (l₁ ++ l₂) W = StableHlo.after l₂ (StableHlo.after l₁ W) := by
  induction l₁ generalizing W with
  | nil => rfl
  | cons a l ih => exact ih _

def stA (W : Vals) : Vals := StableHlo.after opsA W
def stB (W : Vals) : Vals := StableHlo.after opsB W
def stC (W : Vals) : Vals := StableHlo.after opsC W
def st1 (W : Vals) : Vals := StableHlo.after hostOps0_1 W
def st2 (W : Vals) : Vals := StableHlo.after hostOps0_2 W
def st3 (W : Vals) : Vals := StableHlo.after hostOps0_3 W
def stD (W : Vals) : Vals := StableHlo.after opsD W
def stE (W : Vals) : Vals := StableHlo.after opsE W
def stF (W : Vals) : Vals := StableHlo.after opsF W

/-- The stages one after the other. -/
theorem V_stages (m : (ℓ : Loc nD τ sig) → Buf (Elt Ideal) ℓ) (c : Dev nD) (b : Ref sig .tc) :
    V m c b = stF (stE (stD (st3 (st2 (st1 (stC (stB (stA (fun b => m (c, b)))))))))) b := by
  have e : (List.flatten [hostOps0, hostOps0_1, hostOps0_2, hostOps0_3, hostOps0_4] : List (HloOp τ sig (Elt Ideal)))
      = opsA ++ (opsB ++ (opsC ++ (hostOps0_1 ++ (hostOps0_2 ++ (hostOps0_3 ++ (opsD ++ (opsE ++ opsF))))))) := rfl
  unfold V stF stE stD st3 st2 st1 stC stB stA
  rw [e, after_app, after_app, after_app, after_app, after_app, after_app, after_app, after_app]

end Cert.ReferenceIdeal.Hand
end

end
-- ==== Proof.ReferenceIdeal.StageA.lean ====
module

public import proofs.«01_k».proof.Proof.ReferenceIdeal.Ops
public import proofs.«01_k».proof.Proof.Value.Norm

/-!
# The normalised features
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384
set_option maxHeartbeats 4000000

variable (W : Vals)

theorem A_v15 (b : Fin 5) (n : Fin 16384) (g : Fin 2) (d : Fin 128) :
    (stA W main_v15 : Vec Ideal S5x16384x2x128 .f32) (ix4 b n g d) = at16 (s := S5x16384x320) (W main_arg0) (ix3 b n ⟨g.val * 128 + d.val, by omega⟩) * Ideal.rsqrt (Ideal.div (∑ x : Fin 256, at16 (s := S5x16384x320) (W main_arg0) (ix3 b n ⟨x.val, by omega⟩) * at16 (s := S5x16384x320) (W main_arg0) (ix3 b n ⟨x.val, by omega⟩)) (Ideal.ofBits .f32 1132462080#32) + Ideal.ofBits .f32 897988541#32) * at32 (s := S256) (W main_arg1) (ix1 ⟨g.val * 128 + d.val, by omega⟩) := by
  unfold stA
  simp only [opsA, hostOps0, List.take_succ_cons, List.take_zero, List.drop_succ_cons, List.drop_zero]
  try simp only [at32, at16]
  after_reads_at
  all_goals rfl

theorem A_arg0 : stA W main_arg0 = W main_arg0 := by
  unfold stA
  simp only [opsA, hostOps0, List.take_succ_cons, List.take_zero, List.drop_succ_cons, List.drop_zero]
  after_reads_simp

theorem A_arg2 : stA W main_arg2 = W main_arg2 := by
  unfold stA
  simp only [opsA, hostOps0, List.take_succ_cons, List.take_zero, List.drop_succ_cons, List.drop_zero]
  after_reads_simp

end Cert.ReferenceIdeal.Hand

end
-- ==== Proof.ReferenceIdeal.StageB.lean ====
module

public import proofs.«01_k».proof.Proof.ReferenceIdeal.Ops
public import proofs.«01_k».proof.Proof.Value.Norm

/-!
# The largest magnitudes and their logarithms
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384
set_option maxHeartbeats 4000000

variable (W : Vals)

theorem B_v17 (b : Fin 5) (n : Fin 16384) (g : Fin 2) :
    (stB W main_v17 : Vec Ideal S5x16384x2 .f32) (ix3 b n g) = Finset.fold max (Ideal.ofBits .f32 4286578688#32) (fun x : Fin 128 => FloatOps.absf (F := Ideal) (φ := .f32) (at32 (s := S5x16384x2x128) (W main_v15) (ix4 b n g x))) Finset.univ := by
  unfold stB
  simp only [opsB, hostOps0, List.take_succ_cons, List.take_zero, List.drop_succ_cons, List.drop_zero]
  try simp only [at32, at16]
  after_reads_at
  all_goals rfl

theorem B_v15 : stB W main_v15 = W main_v15 := by
  unfold stB
  simp only [opsB, hostOps0, List.take_succ_cons, List.take_zero, List.drop_succ_cons, List.drop_zero]
  after_reads_simp

theorem B_arg0 : stB W main_arg0 = W main_arg0 := by
  unfold stB
  simp only [opsB, hostOps0, List.take_succ_cons, List.take_zero, List.drop_succ_cons, List.drop_zero]
  after_reads_simp

theorem B_arg2 : stB W main_arg2 = W main_arg2 := by
  unfold stB
  simp only [opsB, hostOps0, List.take_succ_cons, List.take_zero, List.drop_succ_cons, List.drop_zero]
  after_reads_simp

theorem C_v30 (b : Fin 5) (n : Fin 16384) (g : Fin 2) :
    (stC W main_v30 : Vec Ideal S5x16384x2 .f32) (ix3 b n g) = max (Ideal.liftRound (fun r => ⌊r⌋) (Ideal.div (Ideal.log ((at32 (s := S5x16384x2) (W main_v17) (ix3 b n g) : EReal) * Ideal.ofBits .f32 991054117#32)) (Ideal.log (Ideal.ofBits .f32 1073741824#32))) + 1) (Ideal.ofBits .f32 3271294976#32) := by
  unfold stC
  simp only [opsC, hostOps0, List.take_succ_cons, List.take_zero, List.drop_succ_cons, List.drop_zero]
  try simp only [at32, at16]
  after_reads_at
  all_goals rfl

theorem C_v25 : stC W main_v25 = (cmpf .oeq (W main_v17 : Vec Ideal S5x16384x2 .f32) (broadcastInDim S5x16384x2 ![] bcast_S_S5x16384x2 (constant (F := Ideal) S_ .f32 0x00000000#32)) : IVec S5x16384x2 1) := by
  unfold stC
  simp only [opsC, hostOps0, List.take_succ_cons, List.take_zero, List.drop_succ_cons, List.drop_zero]
  after_reads_simp

theorem C_cst8 : stC W main_cst_8 = (constant (F := Ideal) S_ .f32 0x00000000#32 : Vec Ideal S_ .f32) := by
  unfold stC
  simp only [opsC, hostOps0, List.take_succ_cons, List.take_zero, List.drop_succ_cons, List.drop_zero]
  after_reads_simp

theorem C_v15 : stC W main_v15 = W main_v15 := by
  unfold stC
  simp only [opsC, hostOps0, List.take_succ_cons, List.take_zero, List.drop_succ_cons, List.drop_zero]
  after_reads_simp

theorem C_arg0 : stC W main_arg0 = W main_arg0 := by
  unfold stC
  simp only [opsC, hostOps0, List.take_succ_cons, List.take_zero, List.drop_succ_cons, List.drop_zero]
  after_reads_simp

theorem C_arg2 : stC W main_arg2 = W main_arg2 := by
  unfold stC
  simp only [opsC, hostOps0, List.take_succ_cons, List.take_zero, List.drop_succ_cons, List.drop_zero]
  after_reads_simp

end Cert.ReferenceIdeal.Hand

end
-- ==== Proof.ReferenceIdeal.StageC.lean ====
module

public import proofs.«01_k».proof.Proof.ReferenceIdeal.Ops
public import proofs.«01_k».proof.Proof.Value.Norm

/-!
# The scales and the clipped codes
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384
set_option maxHeartbeats 4000000

variable (W : Vals)

theorem S1_v31 (b : Fin 5) (n : Fin 16384) (g : Fin 2) :
    (st1 W main_v31 : Vec Ideal S5x16384x2 .f32) (ix3 b n g) = Scalar.select ((W main_v25 : IVec S5x16384x2 1) (ix3 b n g)) (at32 (s := S_) (W main_cst_8) ix0) (at32 (s := S5x16384x2) (W main_v30) (ix3 b n g)) := by
  unfold st1
  simp only [hostOps0_1, List.take_succ_cons, List.take_zero, List.drop_succ_cons, List.drop_zero]
  try simp only [at32, at16]
  after_reads_at
  all_goals rfl

theorem S1_v15 : st1 W main_v15 = W main_v15 := by
  unfold st1
  simp only [hostOps0_1, List.take_succ_cons, List.take_zero, List.drop_succ_cons, List.drop_zero]
  after_reads_simp

theorem S1_arg0 : st1 W main_arg0 = W main_arg0 := by
  unfold st1
  simp only [hostOps0_1, List.take_succ_cons, List.take_zero, List.drop_succ_cons, List.drop_zero]
  after_reads_simp

theorem S1_arg2 : st1 W main_arg2 = W main_arg2 := by
  unfold st1
  simp only [hostOps0_1, List.take_succ_cons, List.take_zero, List.drop_succ_cons, List.drop_zero]
  after_reads_simp

theorem S2_v33 (b : Fin 5) (n : Fin 16384) (g : Fin 2) :
    (st2 W main_v33 : Vec Ideal S5x16384x2 .f32) (ix3 b n g) = Ideal.pow (Ideal.ofBits .f32 1073741824#32) (at32 (s := S5x16384x2) (W main_v31) (ix3 b n g) : EReal) := by
  unfold st2
  simp only [hostOps0_2, List.take_succ_cons, List.take_zero, List.drop_succ_cons, List.drop_zero]
  try simp only [at32, at16]
  after_reads_at
  all_goals rfl

theorem S2_v39 (b : Fin 5) (n : Fin 16384) (g : Fin 2) (d : Fin 128) :
    (st2 W main_v39 : Vec Ideal S5x16384x2x128 .f32) (ix4 b n g d) = (at32 (s := S5x16384x2x128) (W main_v15) (ix4 b n g d) : EReal) * Ideal.pow (Ideal.ofBits .f32 1073741824#32) (- (at32 (s := S5x16384x2) (W main_v31) (ix3 b n g) : EReal)) := by
  unfold st2
  simp only [hostOps0_2, List.take_succ_cons, List.take_zero, List.drop_succ_cons, List.drop_zero]
  try simp only [at32, at16]
  after_reads_at
  all_goals rfl

theorem S2_c11 : st2 W main_cst_11 = (constant (F := Ideal) S_ .f32 0xC3E00000#32 : Vec Ideal S_ .f32) := by
  unfold st2
  after_reads_simp

theorem S2_c12 : st2 W main_cst_12 = (constant (F := Ideal) S_ .f32 0x43E00000#32 : Vec Ideal S_ .f32) := by
  unfold st2
  after_reads_simp

theorem S2_arg0 : st2 W main_arg0 = W main_arg0 := by
  unfold st2
  simp only [hostOps0_2, List.take_succ_cons, List.take_zero, List.drop_succ_cons, List.drop_zero]
  after_reads_simp

theorem S2_arg2 : st2 W main_arg2 = W main_arg2 := by
  unfold st2
  simp only [hostOps0_2, List.take_succ_cons, List.take_zero, List.drop_succ_cons, List.drop_zero]
  after_reads_simp

theorem S3_v40 (b : Fin 5) (n : Fin 16384) (g : Fin 2) (d : Fin 128) :
    (st3 W main_v40 : Vec Ideal S5x16384x2x128 .f32) (ix4 b n g d) = min (at32 (s := S_) (W main_cst_12) ix0 : EReal) (max (at32 (s := S_) (W main_cst_11) ix0 : EReal) (at32 (s := S5x16384x2x128) (W main_v39) (ix4 b n g d) : EReal)) := by
  unfold st3
  simp only [hostOps0_3, List.take_succ_cons, List.take_zero, List.drop_succ_cons, List.drop_zero]
  try simp only [at32, at16]
  after_reads_at
  all_goals rfl

theorem S3_arg0 : st3 W main_arg0 = W main_arg0 := by
  unfold st3
  simp only [hostOps0_3, List.take_succ_cons, List.take_zero, List.drop_succ_cons, List.drop_zero]
  after_reads_simp

theorem S3_arg2 : st3 W main_arg2 = W main_arg2 := by
  unfold st3
  simp only [hostOps0_3, List.take_succ_cons, List.take_zero, List.drop_succ_cons, List.drop_zero]
  after_reads_simp

theorem S3_v33 : st3 W main_v33 = W main_v33 := by
  unfold st3
  simp only [hostOps0_3, List.take_succ_cons, List.take_zero, List.drop_succ_cons, List.drop_zero]
  after_reads_simp

end Cert.ReferenceIdeal.Hand

end
-- ==== Proof.ReferenceIdeal.StageD.lean ====
module

public import proofs.«01_k».proof.Proof.ReferenceIdeal.Ops
public import proofs.«01_k».proof.Proof.Value.Norm

/-!
# The angles
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384
set_option maxHeartbeats 4000000

variable (W : Vals)

theorem D_v41 (b : Fin 5) (n : Fin 16384) (d : Fin 256) :
    (stD W main_v41 : Vec Ideal S5x16384x256 .f32) (ix3 b n d) = at32 (s := S5x16384x2x128) (W main_v40) (ix4 b n ⟨d.val / 128, by omega⟩ ⟨d.val % 128, by omega⟩) := by
  unfold stD
  simp only [opsD, hostOps0_4, List.take_succ_cons, List.take_zero, List.drop_succ_cons, List.drop_zero]
  try simp only [at32, at16]
  after_reads_at
  all_goals rfl

theorem D_v68 (b : Fin 5) (n : Fin 16384) (r : Fin 32) :
    (stD W main_v68 : Vec Ideal S5x16384x32 .f32) (ix3 b n r) = Ideal.cos (FloatOps.sitofp (F := Ideal) .f32 (IntOp.addi ((W main_arg2 : IVec S5 32) (ix1 b)) (BitVec.ofNat 32 n.val)) * Ideal.div 1 (Ideal.pow (Ideal.ofBits .f32 1176256512#32) (Ideal.div (Ideal.ofBits .f32 1073741824#32 * FloatOps.sitofp (F := Ideal) .f32 (BitVec.ofNat 32 r.val)) (Ideal.ofBits .f32 1115684864#32)))) := by
  unfold stD
  simp only [opsD, hostOps0_4, List.take_succ_cons, List.take_zero, List.drop_succ_cons, List.drop_zero]
  try simp only [at32, at16]
  after_reads_at
  all_goals rfl

theorem D_v69 (b : Fin 5) (n : Fin 16384) (r : Fin 32) :
    (stD W main_v69 : Vec Ideal S5x16384x32 .f32) (ix3 b n r) = Ideal.sin (FloatOps.sitofp (F := Ideal) .f32 (IntOp.addi ((W main_arg2 : IVec S5 32) (ix1 b)) (BitVec.ofNat 32 n.val)) * Ideal.div 1 (Ideal.pow (Ideal.ofBits .f32 1176256512#32) (Ideal.div (Ideal.ofBits .f32 1073741824#32 * FloatOps.sitofp (F := Ideal) .f32 (BitVec.ofNat 32 r.val)) (Ideal.ofBits .f32 1115684864#32)))) := by
  unfold stD
  simp only [opsD, hostOps0_4, List.take_succ_cons, List.take_zero, List.drop_succ_cons, List.drop_zero]
  try simp only [at32, at16]
  after_reads_at
  all_goals rfl

theorem D_v44 (b : Fin 5) (n : Fin 16384) (r : Fin 32) (k : Fin 2) :
    (stD W main_v44 : Vec Ideal S5x16384x32x2 .f32) (ix4 b n r k) = at16 (s := S5x16384x320) (W main_arg0) (ix3 b n ⟨256 + (r.val * 2 + k.val), by omega⟩) := by
  unfold stD
  simp only [opsD, hostOps0_4, List.take_succ_cons, List.take_zero, List.drop_succ_cons, List.drop_zero]
  try simp only [at32, at16]
  after_reads_at
  all_goals rfl

theorem D_v33 : stD W main_v33 = W main_v33 := by
  unfold stD
  simp only [opsD, hostOps0_4, List.take_succ_cons, List.take_zero, List.drop_succ_cons, List.drop_zero]
  after_reads_simp

end Cert.ReferenceIdeal.Hand

end
-- ==== Proof.ReferenceIdeal.StageE.lean ====
module

public import proofs.«01_k».proof.Proof.ReferenceIdeal.Ops
public import proofs.«01_k».proof.Proof.Value.Norm

/-!
# The rotated pairs
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384
set_option maxHeartbeats 4000000

variable (W : Vals)

theorem E_v80 (b : Fin 5) (n : Fin 16384) (r : Fin 32) :
    (stE W main_v80 : Vec Ideal S5x16384x32x1 .f32) (ix4 b n r 0) = (at32 (s := S5x16384x32x2) (W main_v44) (ix4 b n r 0) : EReal) * (at32 (s := S5x16384x32) (W main_v68) (ix3 b n r) : EReal) - (at32 (s := S5x16384x32x2) (W main_v44) (ix4 b n r 1) : EReal) * (at32 (s := S5x16384x32) (W main_v69) (ix3 b n r) : EReal) := by
  unfold stE
  simp only [opsE, hostOps0_4, List.take_succ_cons, List.take_zero, List.drop_succ_cons, List.drop_zero]
  try simp only [at32, at16]
  after_reads_at
  all_goals rfl

theorem E_v81 (b : Fin 5) (n : Fin 16384) (r : Fin 32) :
    (stE W main_v81 : Vec Ideal S5x16384x32x1 .f32) (ix4 b n r 0) = (at32 (s := S5x16384x32x2) (W main_v44) (ix4 b n r 0) : EReal) * (at32 (s := S5x16384x32) (W main_v69) (ix3 b n r) : EReal) + (at32 (s := S5x16384x32x2) (W main_v44) (ix4 b n r 1) : EReal) * (at32 (s := S5x16384x32) (W main_v68) (ix3 b n r) : EReal) := by
  unfold stE
  simp only [opsE, hostOps0_4, List.take_succ_cons, List.take_zero, List.drop_succ_cons, List.drop_zero]
  try simp only [at32, at16]
  after_reads_at
  all_goals rfl

theorem E_v41 : stE W main_v41 = W main_v41 := by
  unfold stE
  simp only [opsE, hostOps0_4, List.take_succ_cons, List.take_zero, List.drop_succ_cons, List.drop_zero]
  after_reads_simp

theorem E_v33 : stE W main_v33 = W main_v33 := by
  unfold stE
  simp only [opsE, hostOps0_4, List.take_succ_cons, List.take_zero, List.drop_succ_cons, List.drop_zero]
  after_reads_simp

theorem F_v85 (b : Fin 5) (r : Fin 64) (n : Fin 16384) :
    (stF W main_v85 : Vec Ideal S5x64x16384 .bf16) (ix3 b r n) = if r.val % 2 = 0 then at32 (s := S5x16384x32x1) (W main_v80) (ix4 b n ⟨r.val / 2, by omega⟩ 0) else at32 (s := S5x16384x32x1) (W main_v81) (ix4 b n ⟨r.val / 2, by omega⟩ 0) := by
  unfold stF
  simp only [opsF, hostOps0_4, List.take_succ_cons, List.take_zero, List.drop_succ_cons, List.drop_zero]
  try simp only [at32, at16]
  after_reads_at
  by_cases h : r.val % 2 = 0
  · rw [dif_pos (by omega), if_pos h]
    exact congrArg (fun k : Fin 1 => at32 (s := S5x16384x32x1) (W main_v80) (ix4 b n ⟨r.val / 2, by omega⟩ k)) (Subsingleton.elim _ _)
  · rw [dif_neg (by omega), if_neg h]
    exact congrArg (fun k : Fin 1 => at32 (s := S5x16384x32x1) (W main_v81) (ix4 b n ⟨r.val / 2, by omega⟩ k)) (Subsingleton.elim _ _)

theorem F_v86 (b : Fin 5) (g : Fin 2) (n : Fin 16384) :
    (stF W main_v86 : Vec Ideal S5x2x16384 .f32) (ix3 b g n) = at32 (s := S5x16384x2) (W main_v33) (ix3 b n g) := by
  unfold stF
  simp only [opsF, hostOps0_4, List.take_succ_cons, List.take_zero, List.drop_succ_cons, List.drop_zero]
  try simp only [at32, at16]
  after_reads_at
  all_goals rfl

theorem F_v41 : stF W main_v41 = W main_v41 := by
  unfold stF
  simp only [opsF, hostOps0_4, List.take_succ_cons, List.take_zero, List.drop_succ_cons, List.drop_zero]
  after_reads_simp

end Cert.ReferenceIdeal.Hand

end
-- ==== Proof.ReferenceIdeal.Result.lean ====
module

public import proofs.«01_k».proof.Proof.ReferenceIdeal.StageA
public import proofs.«01_k».proof.Proof.ReferenceIdeal.StageB
public import proofs.«01_k».proof.Proof.ReferenceIdeal.StageC
public import proofs.«01_k».proof.Proof.ReferenceIdeal.StageD
public import proofs.«01_k».proof.Proof.ReferenceIdeal.StageE
public import proofs.«01_k».proof.Proof.Value.Exponent
public import proofs.«01_k».proof.Proof.Value.Norm
public import proofs.«01_k».proof.Proof.Value.Angle
public import proofs.«01_k».proof.Proof.KernelIdeal.Trip
public import proofs.«01_k».proof.Proof.KernelIdeal.Tables
public import proofs.«01_k».proof.Proof.KernelIdeal.Host

/-!
# What the reference computes, in the terms the kernel's blocks are stated in
-/

@[expose] public section

namespace Cert.ReferenceIdeal.Hand
open Idealize Idealize.ShloMosaic Idealize.ShloMosaic.Tactic Idealize.ShloMosaic.TcCoe Cert.ReferenceIdeal Cert.ReferenceIdeal.Gen Cert.Val

set_option maxRecDepth 16384

/-- Dividing by 256 is multiplying by its reciprocal. -/
theorem div256 (x : EReal) : Ideal.div x (Ideal.ofBits .f32 1132462080#32) = x * Ideal.ofBits .f32 998244352#32 := by
  have e : Ideal.ofBits .f32 1132462080#32 = ((256 : ℝ) : EReal) := by
    simp [Ideal.ofBits, Ideal.ieee]
    norm_cast
    norm_num
  have h0 : ((256 : ℝ) : EReal) ≠ 0 := by norm_num
  rw [e, inv256]
  unfold Ideal.div
  rw [if_neg h0, ← EReal.coe_inv, one_div]

variable (m : (ℓ : Loc nD τ sig) → Buf (Elt Ideal) ℓ) (c : Dev nD)

/-- The device's buffers at the start. -/
abbrev W0 : Vals := fun b => m (c, b)

/-- A token's 256 normalised features. -/
noncomputable def colR (b : Fin 5) (n : Fin 16384) (d : Fin 256) : EReal :=
  at16 (s := S5x16384x320) (W0 m c main_arg0) (ix3 b n ⟨d.val, by omega⟩)

/-- The gains. -/
noncomputable def gmR (d : Fin 256) : EReal := at32 (s := S256) (W0 m c main_arg1) (ix1 d)

/-- The normalised features of a token. -/
noncomputable def yR (b : Fin 5) (n : Fin 16384) (d : Fin 256) : EReal := yOf (colR m c b n) (gmR m c) d

theorem v15_at (b : Fin 5) (n : Fin 16384) (g : Fin 2) (d : Fin 128) :
    at32 (s := S5x16384x2x128) (stA (W0 m c) main_v15) (ix4 b n g d) = yR m c b n (feat g d) := by
  have e := A_v15 (W0 m c) b n g d
  have hf : (⟨g.val * 128 + d.val, by omega⟩ : Fin 256) = feat g d := Fin.ext (by show g.val * 128 + d.val = 128 * g.val + d.val; omega)
  have hf' : (⟨g.val * 128 + d.val, by omega⟩ : Fin 320) = ⟨(feat g d).val, by omega⟩ := Fin.ext (by show g.val * 128 + d.val = 128 * g.val + d.val; omega)
  rw [div256, hf, hf'] at e
  exact e

theorem v17_at (b : Fin 5) (n : Fin 16384) (g : Fin 2) :
    at32 (s := S5x16384x2) (stB (stA (W0 m c)) main_v17) (ix3 b n g) = aOf (yR m c b n) g := by
  refine (B_v17 (stA (W0 m c)) b n g).trans ?_
  unfold aOf
  refine congrArg (fun f => Finset.fold max (Ideal.ofBits .f32 4286578688#32) f Finset.univ) (funext fun x => ?_)
  exact congrArg (FloatOps.absf (F := Ideal) (φ := .f32)) (v15_at m c b n g x)

/-- Comparing an array with zero, element by element. -/
theorem cmp_zero (X : Vec Ideal S5x16384x2 .f32) (i : S5x16384x2.Idx) (a : EReal) (h : at32 X i = a) :
    (cmpf .oeq X (broadcastInDim S5x16384x2 ![] bcast_S_S5x16384x2 (constant (F := Ideal) S_ .f32 0x00000000#32)) : IVec S5x16384x2 1) i
      = if a = 0 then 1#1 else 0#1 := by
  have z : Ideal.ofBits .f32 0x00000000#32 = 0 := by simp [Ideal.ofBits, Ideal.ieee]
  subst h
  show BitVec.ofBool (decide (at32 X i = Ideal.ofBits .f32 0x00000000#32)) = _
  rw [z]
  by_cases k : at32 X i = 0
  · rw [if_pos k, decide_eq_true k]; rfl
  · rw [if_neg k, decide_eq_false k]; rfl

theorem v31_at (b : Fin 5) (n : Fin 16384) (g : Fin 2) :
    at32 (s := S5x16384x2) (st1 (stC (stB (stA (W0 m c)))) main_v31) (ix3 b n g) = eRef (aOf (yR m c b n) g) := by
  refine (S1_v31 (stC (stB (stA (W0 m c)))) b n g).trans ?_
  have e30 : at32 (s := S5x16384x2) (stC (stB (stA (W0 m c))) main_v30) (ix3 b n g) = _ := C_v30 (stB (stA (W0 m c))) b n g
  rw [v17_at] at e30
  have z : Ideal.ofBits .f32 0x00000000#32 = 0 := by simp [Ideal.ofBits, Ideal.ieee]
  have c8 : at32 (s := S_) (stC (stB (stA (W0 m c))) main_cst_8) ix0 = 0 := (congrFun (C_cst8 _) ix0).trans z
  have c25 : (stC (stB (stA (W0 m c))) main_v25 : IVec S5x16384x2 1) (ix3 b n g) = _ :=
    (congrFun (C_v25 (stB (stA (W0 m c)))) (ix3 b n g)).trans (cmp_zero _ _ _ (v17_at m c b n g))
  refine (congr (congr (congrArg Scalar.select c25) c8) e30).trans ?_
  unfold eRef
  by_cases h : aOf (yR m c b n) g = 0
  · rw [if_pos h, if_pos h]; rfl
  · rw [if_neg h, if_neg h]; rfl

section
variable (hg : ∀ d, ∃ r : ℝ, gmR m c d = (r : EReal) ∧ |r| ≤ 2 ^ 128)
include hg

theorem a_real (b : Fin 5) (n : Fin 16384) (g : Fin 2) : ∃ a : ℝ, aOf (yR m c b n) g = (a : EReal) ∧ 0 ≤ a ∧ a ≤ 2 ^ 132 :=
  a_bound _ (fun d => y_bound (colR m c b n) (gmR m c) hg d) g

/-- The reference's scale. -/
theorem ref_scale (b : Fin 5) (g : Fin 2) (n : Fin 16384) :
    (V m c main_v86 : Vec Ideal S5x2x16384 .f32) (ix3 b g n) = scaleOf (aOf (yR m c b n) g) := by
  rw [V_stages]
  refine (F_v86 _ b g n).trans ?_
  rw [E_v33, D_v33, S3_v33]
  refine (S2_v33 _ b n g).trans ?_
  rw [v31_at]
  obtain ⟨a, ha, h0, h1⟩ := a_real m c hg b n g
  rw [ha, scaleOf_eq a h0 h1]

/-- The reference's codes before they are packed. -/
theorem ref_code (b : Fin 5) (n : Fin 16384) (d : Fin 256) :
    (V m c main_v41 : Vec Ideal S5x16384x256 .f32) (ix3 b n d)
      = codeOf (yR m c b n d) (invOf (aOf (yR m c b n) (KernelIdeal.Hand.grpOf d))) := by
  rw [V_stages, F_v41, E_v41]
  refine (D_v41 _ b n d).trans ?_
  refine (S3_v40 _ b n _ _).trans ?_
  have e39 := S2_v39 (st1 (stC (stB (stA (W0 m c))))) b n ⟨d.val / 128, by omega⟩ ⟨d.val % 128, by omega⟩
  rw [v31_at, S1_v15, C_v15, B_v15, v15_at] at e39
  obtain ⟨a, ha, h0, h1⟩ := a_real m c hg b n ⟨d.val / 128, by omega⟩
  have hd : feat ⟨d.val / 128, by omega⟩ ⟨d.val % 128, by omega⟩ = d := Fin.ext (by show 128 * (d.val / 128) + d.val % 128 = d.val; omega)
  rw [ha, ← invOf_eq a h0 h1, ← ha, hd] at e39
  unfold codeOf
  rw [S2_c11, S2_c12]
  exact congrArg (fun x => min (Ideal.ofBits .f32 0x43E00000#32) (max (Ideal.ofBits .f32 0xC3E00000#32) x)) e39

end

/-- The offset of a batch row. -/
def posR (b : Fin 5) : BitVec 32 := (W0 m c main_arg2 : IVec S5 32) (ix1 b)

/-- The angle of a token's pair, as the reference computes it. -/
theorem angle_at (hb : ∀ b, (posR m c b).toInt ≤ 2 ^ 31 - 1 - 16383) (b : Fin 5) (n : Fin 16384) (r : Fin 32) :
    (FloatOps.sitofp (F := Ideal) .f32 (IntOp.addi (posR m c b) (BitVec.ofNat 32 n.val)) : EReal) * KernelIdeal.Hand.freqE r
      = ((KernelIdeal.Hand.angOf KernelIdeal.Hand.freqR ((posR m c b).toInt : ℝ) r n.val : ℝ) : EReal) := by
  rw [KernelIdeal.Hand.freq_eq]
  show (((posR m c b + BitVec.ofNat 32 n.val).toInt : ℝ) : EReal) * _ = _
  rw [BitVec.add_comm, KernelIdeal.Hand.lane_pos (posR m c b) (hb b) n.val (by omega), ← EReal.coe_mul]
  unfold KernelIdeal.Hand.angOf
  push_cast
  rfl

/-- The reference's turned features. -/
theorem ref_rope (hb : ∀ b, (posR m c b).toInt ≤ 2 ^ 31 - 1 - 16383) (b : Fin 5) (r : Fin 64) (n : Fin 16384) :
    (V m c main_v85 : Vec Ideal S5x64x16384 .bf16) (ix3 b r n)
      = KernelIdeal.Hand.rotAt (at16 (s := S5x16384x320) (W0 m c main_arg0) (ix3 b n ⟨256 + 2 * (r.val / 2), by omega⟩))
          (at16 (s := S5x16384x320) (W0 m c main_arg0) (ix3 b n ⟨256 + 2 * (r.val / 2) + 1, by omega⟩)) r
          (KernelIdeal.Hand.angOf KernelIdeal.Hand.freqR ((posR m c b).toInt : ℝ) ⟨r.val / 2, by omega⟩ n.val) := by
  set q : Fin 32 := ⟨r.val / 2, by omega⟩ with hq
  set W3 : Vals := st3 (st2 (st1 (stC (stB (stA (W0 m c)))))) with hW
  have a0 : W3 main_arg0 = W0 m c main_arg0 := by rw [hW, S3_arg0, S2_arg0, S1_arg0, C_arg0, B_arg0, A_arg0]
  have a2 : W3 main_arg2 = W0 m c main_arg2 := by rw [hW, S3_arg2, S2_arg2, S1_arg2, C_arg2, B_arg2, A_arg2]
  have ec : at32 (s := S5x16384x32) (stD W3 main_v68) (ix3 b n q) = _ := D_v68 W3 b n q
  have es : at32 (s := S5x16384x32) (stD W3 main_v69) (ix3 b n q) = _ := D_v69 W3 b n q
  have e0 : at32 (s := S5x16384x32x2) (stD W3 main_v44) (ix4 b n q 0) = _ := D_v44 W3 b n q 0
  have e1 : at32 (s := S5x16384x32x2) (stD W3 main_v44) (ix4 b n q 1) = _ := D_v44 W3 b n q 1
  rw [a2] at ec es
  rw [a0] at e0 e1
  have ang := angle_at m c hb b n q
  unfold KernelIdeal.Hand.freqE posR at ang
  rw [ang] at ec es
  have f0 : (⟨256 + (q.val * 2 + (0 : Fin 2).val), by omega⟩ : Fin 320) = ⟨256 + 2 * (r.val / 2), by omega⟩ := Fin.ext (by show 256 + (r.val / 2 * 2 + 0) = 256 + 2 * (r.val / 2); omega)
  have f1 : (⟨256 + (q.val * 2 + (1 : Fin 2).val), by omega⟩ : Fin 320) = ⟨256 + 2 * (r.val / 2) + 1, by omega⟩ := Fin.ext (by show 256 + (r.val / 2 * 2 + 1) = 256 + 2 * (r.val / 2) + 1; omega)
  rw [f0] at e0
  rw [f1] at e1
  rw [V_stages]
  refine (F_v85 _ b r n).trans ?_
  have e80 : at32 (s := S5x16384x32x1) (stE (stD W3) main_v80) (ix4 b n q 0) = _ := E_v80 (stD W3) b n q
  have e81 : at32 (s := S5x16384x32x1) (stE (stD W3) main_v81) (ix4 b n q 0) = _ := E_v81 (stD W3) b n q
  rw [ec, es, e0, e1] at e80 e81
  unfold KernelIdeal.Hand.rotAt
  by_cases h : r.val % 2 = 0
  · rw [if_pos h, if_pos h]; exact e80
  · rw [if_neg h, if_neg h]; exact e81

end Cert.ReferenceIdeal.Hand

end
-- ==== Proof.ReferenceIdeal.Codes.lean ====
module

public import proofs.«01_k».proof.Proof.Gen.ReferenceIdeal.Value
public import Idealize.ShloMosaic.Lib.Pointwise

/-!
# The reference's array of codes is the array it hands to its last step
-/

@[expose] public section

namespace Cert.ReferenceIdeal.Hand
open Idealize Idealize.ShloMosaic Idealize.ShloMosaic.Tactic Idealize.ShloMosaic.TcCoe Cert.ReferenceIdeal Cert.ReferenceIdeal.Gen

set_option maxRecDepth 16384

variable (m : (ℓ : Loc nD τ sig) → Buf (Elt Ideal) ℓ) (c : Dev nD)

/-- The one block of the input is the whole array. -/
theorem whole_in (t : Fin cfg0.N) (y : S5x16384x256.Idx) :
    (iblk m c 0 t : Vec Ideal S5x16384x256 .f32) y = (V m c main_v41 : Vec Ideal S5x16384x256 .f32) y := by
  refine congrArg (V m c main_v41 : Vec Ideal S5x16384x256 .f32) (a₁ := ((cfg0.win 0).blk t).view.emb y) (funext fun a => Fin.ext ?_)
  refine Pipeline.Window.rect_emb_val_of_index_zero (cfg0.win 0) t a ?_ y
  fin_cases a <;> rfl

/-- What the one point writes back, element by element. -/
theorem out_at (x : Vec Ideal S5x16384x256 .f32) (y : S5x16384x256.Idx) : (out0_1 x y : EReal) = x y := by
  unfold out0_1
  refine (Value.canon1_eq (F := Ideal) (View.ld x r0_0) y).trans ?_
  refine congrArg x (a₁ := r0_0.idx (Value.ix1_0 y)) (funext fun a => Fin.ext ?_)
  fin_cases a
  · show 0 + 1 * (y 0).val = (y 0).val; omega
  · show 0 + 1 * (y 1).val = (y 1).val; omega
  · show 0 + 1 * (y 2).val = (y 2).val; omega

/-- The block is not cut. -/
theorem cut_id (t : Fin cfg0.N) (X : Vec Ideal S5x16384x256 .fp8e4m3) (y : S5x16384x256.Idx) :
    (cfg0.win 1).cut (grid0.coords t) X y = X y := rfl

/-- What a point writes back. -/
theorem flushed_at (t : Fin cfg0.N) (y : S5x16384x256.Idx) : ((dats m 0 c).flushed 1 t y : EReal) = (V m c main_v41 : Vec Ideal S5x16384x256 .f32) y :=
  (congrFun (Value.flushed1 m c t) y).trans ((cut_id t _ y).trans ((out_at _ y).trans (whole_in m c t y)))

/-- The codes at the end, at the place of an element of the block. -/
theorem codes_emb (t : Fin cfg0.N) (hf : (cfg0.win 1).flush t = true) (y : S5x16384x256.Idx) :
    (dats m 0 c).arrAt 1 cfg0.N (((cfg0.win 1).blk t).view.emb y) = (V m c main_v41 : Vec Ideal S5x16384x256 .f32) y :=
  ((dats m 0 c).arrAt_emb_eq_flushed 1 Value.disjoint1 t hf y).trans (flushed_at m c t y)

theorem emb_id (t : Fin cfg0.N) (y : S5x16384x256.Idx) : (((cfg0.win 1).blk t).view.emb y : S5x16384x256.Idx) = y := by
  refine funext fun a => Fin.ext ?_
  refine Pipeline.Window.rect_emb_val_of_index_zero (cfg0.win 1) t a ?_ y
  fin_cases a <;> rfl

/-- The codes at the end. -/
theorem codes_at (y : S5x16384x256.Idx) :
    (dats m 0 c).arrAt 1 cfg0.N y = (V m c main_v41 : Vec Ideal S5x16384x256 .f32) y :=
  (congrArg ((dats m 0 c).arrAt 1 cfg0.N) (emb_id (0 : Fin 1) y).symm).trans (codes_emb m c (0 : Fin 1) (by decide) y)

end Cert.ReferenceIdeal.Hand

end
-- ==== Proof.Equation.lean ====
module

public import proofs.«01_k».proof.Defs
public import proofs.«01_k».proof.Proof.Pre
public import proofs.«01_k».proof.Proof.KernelIdeal.Arrays
public import proofs.«01_k».proof.Proof.ReferenceIdeal.Result
public import proofs.«01_k».proof.Proof.ReferenceIdeal.Codes
public import proofs.«01_k».proof.Proof.Gen.ReferenceIdeal.Value

/-!
# The kernel and the reference end with the same numbers
-/

@[expose] public section

namespace Cert.Equation
open Idealize Idealize.ShloMosaic Idealize.ShloMosaic.TcCoe Idealize.SL.Sem Cert.Val

set_option maxRecDepth 16384

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (hO : KernelIdeal.Hand.Ok m) (c : Dev KernelIdeal.nD)
  (h0 : ∀ b n d, ReferenceIdeal.Hand.at16 (s := ReferenceIdeal.S5x16384x320) (ReferenceIdeal.Hand.W0 m' c ReferenceIdeal.main_arg0) (ix3 b n d) = KernelIdeal.Hand.argK m c b n d)
  (h1 : ReferenceIdeal.Hand.gmR m' c = KernelIdeal.Hand.gmK m c)
  (h2 : ∀ b : Fin 5, ReferenceIdeal.Hand.posR m' c b = KernelIdeal.Hand.posK m c b.val)
  (hg : ∀ d, ∃ r : ℝ, KernelIdeal.Hand.gmK m c d = (r : EReal) ∧ |r| ≤ 2 ^ 128)
  (hb : ∀ k, k < 5 → (KernelIdeal.Hand.posK m c k).toInt ≤ 2 ^ 31 - 1 - 16383)

include h0 h1 in
theorem y_eq (b : Fin 5) (n : Fin 16384) : ReferenceIdeal.Hand.yR m' c b n = KernelIdeal.Hand.yK m c b n := by
  have e : ReferenceIdeal.Hand.colR m' c b n = KernelIdeal.Hand.colK m c b n := funext fun d => h0 b n ⟨d.val, by omega⟩
  funext d
  unfold ReferenceIdeal.Hand.yR KernelIdeal.Hand.yK
  rw [e, h1]

include h0 h2 hb in
theorem rope_eq : (ReferenceIdeal.Gen.V m' c ReferenceIdeal.main_v85 : Vec Ideal ReferenceIdeal.S5x64x16384 .bf16)
    = ((KernelIdeal.Hand.dats m hO 0 c).arrAt 3 (KernelIdeal.Hand.cfgM m hO).N : Vec Ideal KernelIdeal.S5x64x16384 .bf16) := by
  funext y
  obtain ⟨b, r, n, rfl⟩ : ∃ (b : Fin 5) (r : Fin 64) (n : Fin 16384), y = ix3 b r n :=
    ⟨y 0, y 1, y 2, funext fun a => by fin_cases a <;> rfl⟩
  refine (ReferenceIdeal.Hand.ref_rope m' c (fun b => by rw [h2]; exact hb _ b.isLt) b r n).trans ?_
  refine Eq.trans ?_ (KernelIdeal.Hand.k_rope m hO c hb b r n).symm
  rw [h0, h0, h2]

include h0 h1 hg hb in
theorem code_eq : (ReferenceIdeal.Gen.dats m' 0 c).arrAt 1 ReferenceIdeal.cfg0.N
    = (KernelIdeal.Hand.dats m hO 0 c).arrAt 4 (KernelIdeal.Hand.cfgM m hO).N := by
  refine funext fun (y : ReferenceIdeal.S5x16384x256.Idx) => ?_
  obtain ⟨b, n, d, rfl⟩ : ∃ (b : Fin 5) (n : Fin 16384) (d : Fin 256), y = ix3 b n d :=
    ⟨y 0, y 1, y 2, funext fun a => by fin_cases a <;> rfl⟩
  refine Eq.trans (ReferenceIdeal.Hand.codes_at m' c (ix3 b n d)) ?_
  refine (ReferenceIdeal.Hand.ref_code m' c (by rw [h1]; exact hg) b n d).trans ?_
  refine Eq.trans ?_ (KernelIdeal.Hand.k_code m hO c hb b n d).symm
  rw [y_eq m m' c h0 h1]

include h0 h1 hg hb in
theorem scale_eq : (ReferenceIdeal.Gen.V m' c ReferenceIdeal.main_v86 : Vec Ideal ReferenceIdeal.S5x2x16384 .f32)
    = ((KernelIdeal.Hand.dats m hO 0 c).arrAt 5 (KernelIdeal.Hand.cfgM m hO).N : Vec Ideal KernelIdeal.S5x2x16384 .f32) := by
  funext y
  obtain ⟨b, g, n, rfl⟩ : ∃ (b : Fin 5) (g : Fin 2) (n : Fin 16384), y = ix3 b g n :=
    ⟨y 0, y 1, y 2, funext fun a => by fin_cases a <;> rfl⟩
  refine (ReferenceIdeal.Hand.ref_scale m' c (by rw [h1]; exact hg) b g n).trans ?_
  refine Eq.trans ?_ (KernelIdeal.Hand.k_scale m hO c hb b g n).symm
  rw [y_eq m m' c h0 h1]

end

/-- From memories that agree on the arguments and satisfy the precondition, both programs end with the same results. -/
theorem algebraic : @Cert.algebraic_KernelIdeal_ReferenceIdeal_pre_arguments_ok KernelIdeal.Gen.facts ReferenceIdeal.Gen.facts Pre_arguments_ok.Hand.facts := by
  intro m g m' g' hpre hag
  have hO : KernelIdeal.Hand.Ok m := trivial
  have hg : ∀ c d, ∃ r : ℝ, KernelIdeal.Hand.gmK m c d = (r : EReal) ∧ |r| ≤ 2 ^ 128 := fun c d =>
    Pre_arguments_ok.Hand.gain _ _ _ (hpre c).1 (ix1 d)
  have hb : ∀ c k, k < 5 → (KernelIdeal.Hand.posK m c k).toInt ≤ 2 ^ 31 - 1 - 16383 := by
    intro c k hk
    unfold KernelIdeal.Hand.posK
    rw [dif_pos hk]
    exact Pre_arguments_ok.Hand.position _ _ _ (hpre c).2 (ix1 ⟨k, hk⟩)
  have h0 : ∀ c b n d, ReferenceIdeal.Hand.at16 (s := ReferenceIdeal.S5x16384x320) (ReferenceIdeal.Hand.W0 m' c ReferenceIdeal.main_arg0) (ix3 b n d) = KernelIdeal.Hand.argK m c b n d :=
    fun c b n d => congrFun (hag c).1 (ix3 b n d)
  have h1 : ∀ c, ReferenceIdeal.Hand.gmR m' c = KernelIdeal.Hand.gmK m c :=
    fun c => funext fun d => congrFun (hag c).2.1 (ix1 d)
  have h2 : ∀ c (b : Fin 5), ReferenceIdeal.Hand.posR m' c b = KernelIdeal.Hand.posK m c b.val := by
    intro c b
    unfold KernelIdeal.Hand.posK
    rw [dif_pos b.isLt]
    exact congrFun (hag c).2.2 (ix1 b)
  refine ⟨fun c => (KernelIdeal.Hand.dats m hO 0 c).arrAt 3 (KernelIdeal.Hand.cfgM m hO).N,
    fun c => (KernelIdeal.Hand.dats m hO 0 c).arrAt 4 (KernelIdeal.Hand.cfgM m hO).N,
    fun c => (KernelIdeal.Hand.dats m hO 0 c).arrAt 5 (KernelIdeal.Hand.cfgM m hO).N, ?_, ?_⟩
  · refine (θ_run _ _ _).mono ?_ (θ_run_and (KernelIdeal.Hand.unchanged m g hO) (KernelIdeal.Hand.run_main m g hO))
    rintro r ⟨hk, h⟩ c
    exact ⟨(h c).1 3, (h c).1 4, (h c).1 5, hk c⟩
  · refine (θ_run _ _ _).mono ?_ (ReferenceIdeal.Gen.run_main m' g')
    intro r h c
    exact ⟨((h c).2 ReferenceIdeal.main_v85 (Pipeline.mem_restRefs_of _ (by decide) (by decide))).trans
        (rope_eq m m' hO c (h0 c) (h2 c) (hb c)),
      (ReferenceIdeal.Value.post1 m' r h c).trans (code_eq m m' hO c (h0 c) (h1 c) (hg c) (hb c)),
      ((h c).2 ReferenceIdeal.main_v86 (Pipeline.mem_restRefs_of _ (by decide) (by decide))).trans
        (scale_eq m m' hO c (h0 c) (h1 c) (hg c) (hb c)),
      ReferenceIdeal.Value.kept_main_arg0 m' r h c, ReferenceIdeal.Value.kept_main_arg1 m' r h c,
      ReferenceIdeal.Value.kept_main_arg2 m' r h c⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Pre
public import proofs.«01_k».proof.Proof.Kernel.Frame
public import proofs.«01_k».proof.Proof.KernelIdeal.Frame
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_arguments_ok.Hand.facts,
  fun m ρ _ => Cert.Kernel.Hand.frame m ρ trivial,
  fun m ρ _ => Cert.KernelIdeal.Hand.frame m ρ trivial,
  fun m ρ _ => Cert.KernelIdeal.Hand.frame m ρ trivial,
  fun m ρ _ => Cert.ReferenceIdeal.Gen.frame m ρ,
  fun m ρ _ => Cert.ReferenceIdeal.Gen.frame m ρ,
  ⟨IdealRules.bf16_pair.statement _ _, IdealRules.bf16_pair.statement _ _, IdealRules.bf16_pair.packStatement _⟩,
  Cert.Equation.algebraic⟩

end Cert.Proof

end
